-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![512, 512]⟩ (Layout.meshBlock [2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![256, 512]⟩ ⟨2, ![512, 1024]⟩ (Layout.meshBlock [2, 2] ![[1], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![256, 512]⟩ ⟨2, ![512, 1024]⟩ (Layout.meshBlock [2, 2] ![[1], [0]] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![256, 512]⟩ ⟨2, ![512, 1024]⟩ (Layout.meshBlock [2, 2] ![[1], [0]] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 256]⟩ ⟨2, ![512, 512]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S4x128x512 : Shape := ⟨3, ![4, 128, 512]⟩
abbrev S3x4x128x512 : Shape := ⟨4, ![3, 4, 128, 512]⟩
abbrev S4x128x256 : Shape := ⟨3, ![4, 128, 256]⟩
abbrev S3x4x128x256 : Shape := ⟨4, ![3, 4, 128, 256]⟩
abbrev S4 : Shape := ⟨1, ![4]⟩
abbrev S3x4 : Shape := ⟨2, ![3, 4]⟩
abbrev S_ : Shape := ⟨0, ![]⟩
abbrev S128x256 : Shape := ⟨2, ![128, 256]⟩
abbrev S128x512 : Shape := ⟨2, ![128, 512]⟩
abbrev S1x128x512 : Shape := ⟨3, ![1, 128, 512]⟩
abbrev S1 : Shape := ⟨1, ![1]⟩
abbrev S1x1 : Shape := ⟨2, ![1, 1]⟩
abbrev S1x1x128x512 : Shape := ⟨4, ![1, 1, 128, 512]⟩
abbrev S1x128x256 : Shape := ⟨3, ![1, 128, 256]⟩
abbrev S1x1x128x256 : Shape := ⟨4, ![1, 1, 128, 256]⟩

abbrev nBuf : Space → Nat
  | .hbm => 8
  | .vmem => 12
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S256x512, .bf16⟩
  | .hbm, ⟨3, _⟩ => ⟨S256x512, .bf16⟩
  | .hbm, ⟨4, _⟩ => ⟨S512x256, .bf16⟩
  | .hbm, ⟨5, _⟩ => ⟨S512x256, .bf16⟩
  | .hbm, ⟨6, _⟩ => ⟨S512x256, .bf16⟩
  | .hbm, ⟨7, _⟩ => ⟨S512x256, .f32⟩
  | .local _ .vmem, ⟨0, _⟩ => ⟨S512x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S512x256, .f32⟩
  | .local _ .vmem, ⟨8, _⟩ => ⟨S4x128x512, .bf16⟩
  | .local _ .vmem, ⟨9, _⟩ => ⟨S3x4x128x512, .bf16⟩
  | .local _ .vmem, ⟨10, _⟩ => ⟨S4x128x256, .bf16⟩
  | .local _ .vmem, ⟨11, _⟩ => ⟨S3x4x128x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_dev3 (d0 : Dev nD) : Nat :=
  let c0_i32_25 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_24 : BitVec 32 := 2#32
  let v26 : BitVec 32 := Scalar.muli v2 c2_i32_24
  let v27 : BitVec 32 := Scalar.addi c0_i32_25 v26
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_26 : BitVec 32 := 1#32
  let v28 : BitVec 32 := Scalar.muli v6 c1_i32_26
  let v29 : BitVec 32 := Scalar.addi v27 v28
  v29.toNat
def k0_dev4 (d0 : Dev nD) : Nat :=
  let c0_i32_42 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_41 : BitVec 32 := 2#32
  let v45 : BitVec 32 := Scalar.muli v2 c2_i32_41
  let v46 : BitVec 32 := Scalar.addi c0_i32_42 v45
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_43 : BitVec 32 := 1#32
  let v47 : BitVec 32 := Scalar.muli v6 c1_i32_43
  let v48 : BitVec 32 := Scalar.addi v46 v47
  v48.toNat
def k0_dev5 (d0 : Dev nD) : Nat :=
  let c0_i32_59 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_58 : BitVec 32 := 2#32
  let v64 : BitVec 32 := Scalar.muli v2 c2_i32_58
  let v65 : BitVec 32 := Scalar.addi c0_i32_59 v64
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_60 : BitVec 32 := 1#32
  let v66 : BitVec 32 := Scalar.muli v6 c1_i32_60
  let v67 : BitVec 32 := Scalar.addi v65 v66
  v67.toNat
def k0_dev6 (d0 : Dev nD) : Nat :=
  let c0_i32_75 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_74 : BitVec 32 := 2#32
  let v83 : BitVec 32 := Scalar.muli v2 c2_i32_74
  let v84 : BitVec 32 := Scalar.addi c0_i32_75 v83
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_76 : BitVec 32 := 1#32
  let v85 : BitVec 32 := Scalar.muli v6 c1_i32_76
  let v86 : BitVec 32 := Scalar.addi v84 v85
  v86.toNat
def k0_dev7 (d0 : Dev nD) : Nat :=
  let c0_i32_123 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_122 : BitVec 32 := 2#32
  let v125 : BitVec 32 := Scalar.muli v7 c2_i32_122
  let v126 : BitVec 32 := Scalar.addi c0_i32_123 v125
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_124 : BitVec 32 := 1#32
  let v127 : BitVec 32 := Scalar.muli v5 c1_i32_124
  let v128 : BitVec 32 := Scalar.addi v126 v127
  v128.toNat
def k0_dev8 (d0 : Dev nD) : Nat :=
  let c0_i32_169 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_168 : BitVec 32 := 2#32
  let v165 : BitVec 32 := Scalar.muli v7 c2_i32_168
  let v166 : BitVec 32 := Scalar.addi c0_i32_169 v165
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_170 : BitVec 32 := 1#32
  let v167 : BitVec 32 := Scalar.muli v5 c1_i32_170
  let v168 : BitVec 32 := Scalar.addi v166 v167
  v168.toNat
def k0_dev9 (d0 : Dev nD) : Nat :=
  let c0_i32_215 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_214 : BitVec 32 := 2#32
  let v205 : BitVec 32 := Scalar.muli v7 c2_i32_214
  let v206 : BitVec 32 := Scalar.addi c0_i32_215 v205
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_216 : BitVec 32 := 1#32
  let v207 : BitVec 32 := Scalar.muli v5 c1_i32_216
  let v208 : BitVec 32 := Scalar.addi v206 v207
  v208.toNat
def k0_dev10 (d0 : Dev nD) : Nat :=
  let c0_i32_261 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_260 : BitVec 32 := 2#32
  let v245 : BitVec 32 := Scalar.muli v7 c2_i32_260
  let v246 : BitVec 32 := Scalar.addi c0_i32_261 v245
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_262 : BitVec 32 := 1#32
  let v247 : BitVec 32 := Scalar.muli v5 c1_i32_262
  let v248 : BitVec 32 := Scalar.addi v246 v247
  v248.toNat
def k0_dev11 (d0 : Dev nD) : Nat :=
  let c0_i32_308 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_307 : BitVec 32 := 2#32
  let v285 : BitVec 32 := Scalar.muli v2 c2_i32_307
  let v286 : BitVec 32 := Scalar.addi c0_i32_308 v285
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_309 : BitVec 32 := 1#32
  let v287 : BitVec 32 := Scalar.muli v6 c1_i32_309
  let v288 : BitVec 32 := Scalar.addi v286 v287
  v288.toNat
def k0_dev12 (d0 : Dev nD) : Nat :=
  let c0_i32_353 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_352 : BitVec 32 := 2#32
  let v323 : BitVec 32 := Scalar.muli v2 c2_i32_352
  let v324 : BitVec 32 := Scalar.addi c0_i32_353 v323
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_354 : BitVec 32 := 1#32
  let v325 : BitVec 32 := Scalar.muli v6 c1_i32_354
  let v326 : BitVec 32 := Scalar.addi v324 v325
  v326.toNat
def k0_dev13 (d0 : Dev nD) : Nat :=
  let c0_i32_398 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_397 : BitVec 32 := 2#32
  let v361 : BitVec 32 := Scalar.muli v2 c2_i32_397
  let v362 : BitVec 32 := Scalar.addi c0_i32_398 v361
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_399 : BitVec 32 := 1#32
  let v363 : BitVec 32 := Scalar.muli v6 c1_i32_399
  let v364 : BitVec 32 := Scalar.addi v362 v363
  v364.toNat
def k0_dev14 (d0 : Dev nD) : Nat :=
  let c0_i32_443 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_442 : BitVec 32 := 2#32
  let v399 : BitVec 32 := Scalar.muli v2 c2_i32_442
  let v400 : BitVec 32 := Scalar.addi c0_i32_443 v399
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_444 : BitVec 32 := 1#32
  let v401 : BitVec 32 := Scalar.muli v6 c1_i32_444
  let v402 : BitVec 32 := Scalar.addi v400 v401
  v402.toNat
def k0_dev15 (d0 : Dev nD) : Nat :=
  let c0_i32_491 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_490 : BitVec 32 := 2#32
  let v441 : BitVec 32 := Scalar.muli v7 c2_i32_490
  let v442 : BitVec 32 := Scalar.addi c0_i32_491 v441
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_492 : BitVec 32 := 1#32
  let v443 : BitVec 32 := Scalar.muli v5 c1_i32_492
  let v444 : BitVec 32 := Scalar.addi v442 v443
  v444.toNat
def k0_dev16 (d0 : Dev nD) : Nat :=
  let c0_i32_537 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_536 : BitVec 32 := 2#32
  let v481 : BitVec 32 := Scalar.muli v7 c2_i32_536
  let v482 : BitVec 32 := Scalar.addi c0_i32_537 v481
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_538 : BitVec 32 := 1#32
  let v483 : BitVec 32 := Scalar.muli v5 c1_i32_538
  let v484 : BitVec 32 := Scalar.addi v482 v483
  v484.toNat
def k0_dev17 (d0 : Dev nD) : Nat :=
  let c0_i32_583 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_582 : BitVec 32 := 2#32
  let v521 : BitVec 32 := Scalar.muli v7 c2_i32_582
  let v522 : BitVec 32 := Scalar.addi c0_i32_583 v521
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_584 : BitVec 32 := 1#32
  let v523 : BitVec 32 := Scalar.muli v5 c1_i32_584
  let v524 : BitVec 32 := Scalar.addi v522 v523
  v524.toNat
def k0_dev18 (d0 : Dev nD) : Nat :=
  let c0_i32_629 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_628 : BitVec 32 := 2#32
  let v561 : BitVec 32 := Scalar.muli v7 c2_i32_628
  let v562 : BitVec 32 := Scalar.addi c0_i32_629 v561
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_630 : BitVec 32 := 1#32
  let v563 : BitVec 32 := Scalar.muli v5 c1_i32_630
  let v564 : BitVec 32 := Scalar.addi v562 v563
  v564.toNat
def k0_dev19 (d0 : Dev nD) : Nat :=
  let c0_i32_676 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_675 : BitVec 32 := 2#32
  let v601 : BitVec 32 := Scalar.muli v2 c2_i32_675
  let v602 : BitVec 32 := Scalar.addi c0_i32_676 v601
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_677 : BitVec 32 := 1#32
  let v603 : BitVec 32 := Scalar.muli v6 c1_i32_677
  let v604 : BitVec 32 := Scalar.addi v602 v603
  v604.toNat
def k0_dev20 (d0 : Dev nD) : Nat :=
  let c0_i32_721 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_720 : BitVec 32 := 2#32
  let v639 : BitVec 32 := Scalar.muli v2 c2_i32_720
  let v640 : BitVec 32 := Scalar.addi c0_i32_721 v639
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_722 : BitVec 32 := 1#32
  let v641 : BitVec 32 := Scalar.muli v6 c1_i32_722
  let v642 : BitVec 32 := Scalar.addi v640 v641
  v642.toNat
def k0_dev21 (d0 : Dev nD) : Nat :=
  let c0_i32_766 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_765 : BitVec 32 := 2#32
  let v677 : BitVec 32 := Scalar.muli v2 c2_i32_765
  let v678 : BitVec 32 := Scalar.addi c0_i32_766 v677
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_767 : BitVec 32 := 1#32
  let v679 : BitVec 32 := Scalar.muli v6 c1_i32_767
  let v680 : BitVec 32 := Scalar.addi v678 v679
  v680.toNat
def k0_dev22 (d0 : Dev nD) : Nat :=
  let c0_i32_811 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_810 : BitVec 32 := 2#32
  let v715 : BitVec 32 := Scalar.muli v2 c2_i32_810
  let v716 : BitVec 32 := Scalar.addi c0_i32_811 v715
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_812 : BitVec 32 := 1#32
  let v717 : BitVec 32 := Scalar.muli v6 c1_i32_812
  let v718 : BitVec 32 := Scalar.addi v716 v717
  v718.toNat
def k0_dev23 (d0 : Dev nD) : Nat :=
  let c0_i32_859 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_858 : BitVec 32 := 2#32
  let v757 : BitVec 32 := Scalar.muli v7 c2_i32_858
  let v758 : BitVec 32 := Scalar.addi c0_i32_859 v757
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_860 : BitVec 32 := 1#32
  let v759 : BitVec 32 := Scalar.muli v5 c1_i32_860
  let v760 : BitVec 32 := Scalar.addi v758 v759
  v760.toNat
def k0_dev24 (d0 : Dev nD) : Nat :=
  let c0_i32_905 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_904 : BitVec 32 := 2#32
  let v797 : BitVec 32 := Scalar.muli v7 c2_i32_904
  let v798 : BitVec 32 := Scalar.addi c0_i32_905 v797
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_906 : BitVec 32 := 1#32
  let v799 : BitVec 32 := Scalar.muli v5 c1_i32_906
  let v800 : BitVec 32 := Scalar.addi v798 v799
  v800.toNat
def k0_dev25 (d0 : Dev nD) : Nat :=
  let c0_i32_951 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_950 : BitVec 32 := 2#32
  let v837 : BitVec 32 := Scalar.muli v7 c2_i32_950
  let v838 : BitVec 32 := Scalar.addi c0_i32_951 v837
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_952 : BitVec 32 := 1#32
  let v839 : BitVec 32 := Scalar.muli v5 c1_i32_952
  let v840 : BitVec 32 := Scalar.addi v838 v839
  v840.toNat
def k0_dev26 (d0 : Dev nD) : Nat :=
  let c0_i32_997 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_996 : BitVec 32 := 2#32
  let v877 : BitVec 32 := Scalar.muli v7 c2_i32_996
  let v878 : BitVec 32 := Scalar.addi c0_i32_997 v877
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_998 : BitVec 32 := 1#32
  let v879 : BitVec 32 := Scalar.muli v5 c1_i32_998
  let v880 : BitVec 32 := Scalar.addi v878 v879
  v880.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x512 : Shape := ⟨2, ![512, 512]⟩
abbrev S512x1024 : Shape := ⟨2, ![512, 1024]⟩
abbrev S1024x512 : Shape := ⟨2, ![1024, 512]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S512x512, .bf16⟩
  | .hbm, ⟨1, _⟩ => ⟨S512x1024, .bf16⟩
  | .hbm, ⟨2, _⟩ => ⟨S512x1024, .bf16⟩
  | .hbm, ⟨3, _⟩ => ⟨S512x1024, .bf16⟩
  | .hbm, ⟨4, _⟩ => ⟨S1024x512, .bf16⟩
  | .hbm, ⟨5, _⟩ => ⟨S1024x512, .bf16⟩
  | .hbm, ⟨6, _⟩ => ⟨S1024x512, .bf16⟩
  | .hbm, ⟨7, _⟩ => ⟨S512x1024, .f32⟩
  | .hbm, ⟨8, _⟩ => ⟨S512x1024, .bf16⟩
  | .hbm, ⟨9, _⟩ => ⟨S_, .bf16⟩
  | .hbm, ⟨10, _⟩ => ⟨S512x1024, .bf16⟩
  | .hbm, ⟨11, _⟩ => ⟨S512x1024, .bf16⟩
  | .hbm, ⟨12, _⟩ => ⟨S512x512, .f32⟩
  | .hbm, ⟨13, _⟩ => ⟨S512x512, .bf16⟩
  | .hbm, ⟨14, _⟩ => ⟨S512x1024, .f32⟩
  | .hbm, ⟨15, _⟩ => ⟨S512x1024, .bf16⟩
  | .hbm, ⟨16, _⟩ => ⟨S_, .bf16⟩
  | .hbm, ⟨17, _⟩ => ⟨S512x1024, .bf16⟩
  | .hbm, ⟨18, _⟩ => ⟨S512x1024, .bf16⟩
  | .hbm, ⟨19, _⟩ => ⟨S512x512, .f32⟩
  | .hbm, ⟨20, _⟩ => ⟨S512x512, .bf16⟩
  | .hbm, ⟨21, _⟩ => ⟨S512x1024, .f32⟩
  | .hbm, ⟨22, _⟩ => ⟨S512x1024, .bf16⟩
  | .hbm, ⟨23, _⟩ => ⟨S_, .bf16⟩
  | .hbm, ⟨24, _⟩ => ⟨S512x1024, .bf16⟩
  | .hbm, ⟨25, _⟩ => ⟨S512x1024, .bf16⟩
  | .hbm, ⟨26, _⟩ => ⟨S512x512, .f32⟩
  | .hbm, ⟨27, _⟩ => ⟨S512x512, .bf16⟩
  | .hbm, ⟨28, _⟩ => ⟨S512x512, .f32⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.KernelIdeal.Program.lean ====
/-
The kernel body, written once over a layer `l : Fin 3` and a row chunk `c : Fin 4`.

The printed body lists the two exchanges of every layer and every chunk one after another. Here each
exchange is one small program with the layer and the chunk as variables, and `body_eq` says that the printed
body is these programs in sequence.

Names: the "y" exchange is the one along the mesh axis `y` (partial products `x · Win`), the "x" exchange the
one along the mesh axis `x` (partial products `h · Wout`). A send buffer has a slab per chunk, a landing buffer
a slab per layer and chunk; each slab has its own DMA semaphore.
-/
module

public import proofs.«01_k».proof.Proof.Gen.KernelIdeal
public import proofs.«01_k».proof.Proof.Gen.KernelIdeal.Skeleton

@[expose] public section

set_option maxRecDepth 16384

noncomputable section

namespace Cert.KernelIdealRun

open Cert.KernelIdeal Cert.KernelIdeal.Gen
open Idealize.ShloMosaic Idealize.SL.Sem

variable {F : FTy → Type} [FloatOps F]

/-! ## Buffers, rectangles, slabs, semaphores -/

abbrev xM : Memref sig .tc .vmem S512x256 .bf16 := Memref.whole cc0_stg0_0
abbrev oM : Memref sig .tc .vmem S512x256 .f32 := Memref.whole cc0_stg7_0
abbrev ysM : Memref sig .tc .vmem S4x128x512 .bf16 := Memref.whole cc0_scratch0
abbrev yrM : Memref sig .tc .vmem S3x4x128x512 .bf16 := Memref.whole cc0_scratch1
abbrev xsM : Memref sig .tc .vmem S4x128x256 .bf16 := Memref.whole cc0_scratch2
abbrev xrM : Memref sig .tc .vmem S3x4x128x256 .bf16 := Memref.whole cc0_scratch3

/-- Layer `l`'s first and second weight block, as staged. -/
abbrev winM : Fin 3 → Memref sig .tc .vmem S256x512 .bf16
  | 0 => Memref.whole cc0_stg1_0 | 1 => Memref.whole cc0_stg3_0 | 2 => Memref.whole cc0_stg5_0
abbrev woutM : Fin 3 → Memref sig .tc .vmem S512x256 .bf16
  | 0 => Memref.whole cc0_stg2_0 | 1 => Memref.whole cc0_stg4_0 | 2 => Memref.whole cc0_stg6_0

theorem ys_in : ∀ (c : Fin 4) (a), (![c.val, 0, 0] : Fin 3 → Nat) a + S1x128x512.size a ≤ S4x128x512.size a := by decide
theorem xs_in : ∀ (c : Fin 4) (a), (![c.val, 0, 0] : Fin 3 → Nat) a + S1x128x256.size a ≤ S4x128x256.size a := by decide
theorem yr_in : ∀ (l : Fin 3) (c : Fin 4) (a), (![l.val, c.val, 0, 0] : Fin 4 → Nat) a + S1x1x128x512.size a ≤ S3x4x128x512.size a := by decide
theorem xr_in : ∀ (l : Fin 3) (c : Fin 4) (a), (![l.val, c.val, 0, 0] : Fin 4 → Nat) a + S1x1x128x256.size a ≤ S3x4x128x256.size a := by decide
theorem row_in : ∀ (c : Fin 4) (a), (![128 * c.val, 0] : Fin 2 → Nat) a + S128x256.size a ≤ S512x256.size a := by decide
theorem s4_in : ∀ (c : Fin 4) (a), (![c.val] : Fin 1 → Nat) a + S1.size a ≤ S4.size a := by decide
theorem s34_in : ∀ (l : Fin 3) (c : Fin 4) (a), (![l.val, c.val] : Fin 2 → Nat) a + S1x1.size a ≤ S3x4.size a := by decide

abbrev ysR (c : Fin 4) : Rect S4x128x512 := Rect.unit (s := S4x128x512) ![c.val, 0, 0] S1x128x512.size (ys_in c)
abbrev xsR (c : Fin 4) : Rect S4x128x256 := Rect.unit (s := S4x128x256) ![c.val, 0, 0] S1x128x256.size (xs_in c)
abbrev yrR (l : Fin 3) (c : Fin 4) : Rect S3x4x128x512 := Rect.unit (s := S3x4x128x512) ![l.val, c.val, 0, 0] S1x1x128x512.size (yr_in l c)
abbrev xrR (l : Fin 3) (c : Fin 4) : Rect S3x4x128x256 := Rect.unit (s := S3x4x128x256) ![l.val, c.val, 0, 0] S1x1x128x256.size (xr_in l c)
/-- Rows `128 c … 128 c + 127` of a `512 × 256` block. -/
abbrev rowR (c : Fin 4) : Rect S512x256 := Rect.unit (s := S512x256) ![128 * c.val, 0] S128x256.size (row_in c)
abbrev winR : Rect S256x512 := Rect.unit (s := S256x512) ![0, 0] S256x512.size inb_S256x512_S256x512_0_0
abbrev woutR : Rect S512x256 := Rect.unit (s := S512x256) ![0, 0] S512x256.size inb_S512x256_S512x256_0_0

theorem ys_words : ∀ c : Fin 4, (ysR c).WholeWords (EltTy.packing .bf16) := by decide
theorem xs_words : ∀ c : Fin 4, (xsR c).WholeWords (EltTy.packing .bf16) := by decide
theorem yr_words : ∀ (l : Fin 3) (c : Fin 4), (yrR l c).WholeWords (EltTy.packing .bf16) := by decide
theorem xr_words : ∀ (l : Fin 3) (c : Fin 4), (xrR l c).WholeWords (EltTy.packing .bf16) := by decide
theorem ys_packed : ∀ c : Fin 4, (ysR c).PackedRows (EltTy.packing .bf16) := by decide
theorem xs_packed : ∀ c : Fin 4, (xsR c).PackedRows (EltTy.packing .bf16) := by decide

/-- The slabs as the transfers name them: two-dimensional. -/
abbrev ysSl (c : Fin 4) : Memref sig .tc .vmem S128x512 .bf16 := (ysM.slice (ysR c) (fun _ => rfl)).squeeze S128x512 squeezes_S1x128x512_S128x512
abbrev xsSl (c : Fin 4) : Memref sig .tc .vmem S128x256 .bf16 := (xsM.slice (xsR c) (fun _ => rfl)).squeeze S128x256 squeezes_S1x128x256_S128x256
abbrev yrSl (l : Fin 3) (c : Fin 4) : Memref sig .tc .vmem S128x512 .bf16 := (yrM.slice (yrR l c) (fun _ => rfl)).squeeze S128x512 squeezes_S1x1x128x512_S128x512
abbrev xrSl (l : Fin 3) (c : Fin 4) : Memref sig .tc .vmem S128x256 .bf16 := (xrM.slice (xrR l c) (fun _ => rfl)).squeeze S128x256 squeezes_S1x1x128x256_S128x256

abbrev one4 (s : DmaSems sig S4) (c : Fin 4) : DmaSem sig := ((s.slice (Rect.unit (s := S4) ![c.val] S1.size (s4_in c))).squeeze S_ squeezes_S1_S_).sem
abbrev one34 (s : DmaSems sig S3x4) (l : Fin 3) (c : Fin 4) : DmaSem sig :=
  ((s.slice (Rect.unit (s := S3x4) ![l.val, c.val] S1x1.size (s34_in l c))).squeeze S_ squeezes_S1x1_S_).sem
/-- The DMA semaphores of the slabs: send buffers' and landing buffers'. -/
abbrev ysSem (c : Fin 4) : DmaSem sig := one4 cc0_scratch4 c
abbrev yrSem (l : Fin 3) (c : Fin 4) : DmaSem sig := one34 cc0_scratch5 l c
abbrev xsSem (c : Fin 4) : DmaSem sig := one4 cc0_scratch6 c
abbrev xrSem (l : Fin 3) (c : Fin 4) : DmaSem sig := one34 cc0_scratch7 l c
/-- The barrier semaphore. -/
abbrev barS : Sem sig := (SemArray.scalar (sig.barrier 0 rfl) : Sems sig S_).sem

theorem ysSl_words (c : Fin 4) : (ysSl c).view.WordExact := ((Memref.isWhole_whole cc0_scratch0).wordExact_slice rfl _ (ys_words c)).reshape _ _
theorem xsSl_words (c : Fin 4) : (xsSl c).view.WordExact := ((Memref.isWhole_whole cc0_scratch2).wordExact_slice rfl _ (xs_words c)).reshape _ _
theorem yrSl_words (l : Fin 3) (c : Fin 4) : (yrSl l c).view.WordExact := ((Memref.isWhole_whole cc0_scratch1).wordExact_slice rfl _ (yr_words l c)).reshape _ _
theorem xrSl_words (l : Fin 3) (c : Fin 4) : (xrSl l c).view.WordExact := ((Memref.isWhole_whole cc0_scratch3).wordExact_slice rfl _ (xr_words l c)).reshape _ _

/-! ## The neighbours -/

/-- The other device along `y`, and the other along `x`, as the kernel computes them. -/
def yNb (d : Dev nD) : Dev nD := ⟨k0_dev3 d, k0_dev3_lt d⟩
def xNb (d : Dev nD) : Dev nD := ⟨k0_dev7 d, k0_dev7_lt d⟩

/-! ## The arithmetic of one chunk -/

/-- A weight block as the products read it. -/
def castWin (w : Vec F S256x512 .bf16) : FVec F S256x512 .bf16 := shapeCast S256x512 w shapeCasts_S256x512_S256x512
def castWout (w : Vec F S512x256 .bf16) : FVec F S512x256 .bf16 := shapeCast S512x256 w shapeCasts_S512x256_S512x256

/-- A landed slab, widened. -/
def wideY (v : Vec F S1x1x128x512 .bf16) : FVec F S128x512 .f32 := extf .f32 (shapeCast S128x512 v shapeCasts_S1x1x128x512_S128x512) bitsLt_bf16_f32
def wideX (v : Vec F S1x1x128x256 .bf16) : FVec F S128x256 .f32 := extf .f32 (shapeCast S128x256 v shapeCasts_S1x1x128x256_S128x256) bitsLt_bf16_f32

/-- Layer 0's partial product `x · Win` of a chunk. -/
def partP0 (w : FVec F S256x512 .bf16) (x : Vec F S128x256 .bf16) : FVec F S128x512 .f32 :=
  matmul dot_S128x256_S256x512_S128x512_1_0_0_1_n_n none (shapeCast S128x256 x shapeCasts_S128x256_S128x256) w (constant S128x512 .f32 0x00000000#32)
/-- A later layer's: the previous layer's result is the own partial sum plus the landed one. -/
def partP (w : FVec F S256x512 .bf16) (q : FVec F S128x256 .f32) (v : Vec F S1x1x128x256 .bf16) : FVec F S128x512 .f32 :=
  matmul dot_S128x256_S256x512_S128x512_1_0_0_1_n_n none (truncf .bf16 (addf q (wideX v)) bitsLt_bf16_f32) w (constant S128x512 .f32 0x00000000#32)
/-- The partial product `relu(h) · Wout` of a chunk. -/
def partQ (w : FVec F S512x256 .bf16) (p : FVec F S128x512 .f32) (v : Vec F S1x1x128x512 .bf16) : FVec F S128x256 .f32 :=
  matmul dot_S128x512_S512x256_S128x256_1_0_0_1_n_n none
    (truncf .bf16 (maximumf (addf p (wideY v)) (broadcast S128x512 (Scalar.ofBits .f32 0x00000000#32))) bitsLt_bf16_f32) w (constant S128x256 .f32 0x00000000#32)
/-- The result's rows of a chunk. -/
def outRows (q : FVec F S128x256 .f32) (v : Vec F S1x1x128x256 .bf16) : FVec F S128x256 .f32 := addf q (wideX v)
/-- A partial product as it is sent. -/
def packY (p : FVec F S128x512 .f32) : FVec F S1x128x512 .bf16 := shapeCast S1x128x512 (truncf .bf16 p bitsLt_bf16_f32) shapeCasts_S128x512_S1x128x512
def packX (q : FVec F S128x256 .f32) : FVec F S1x128x256 .bf16 := shapeCast S1x128x256 (truncf .bf16 q bitsLt_bf16_f32) shapeCasts_S128x256_S1x128x256

/-! ## The exchanges -/

abbrev Eff (F : FTy → Type) := TpuEff nD τ sig (Elt F) Λ₀ .tc

/-- Store a partial product into its send slab and start its transfer to device `n`. -/
def sendY (n : Dev nD) (l : Fin 3) (c : Fin 4) (v : FVec F S1x128x512 .bf16) : Prog (Eff F) PUnit := do
  let _ ← Prog.lift (.load ysM (ysR c).toLoadRect (View.loadsAt_vmem h_S1x128x512))
  Prog.lift (.store ysM (ysR c) v Finset.univ (View.stores_vmem h_S1x128x512 ((Memref.isWhole_whole cc0_scratch0).storeExact_slice rfl _ (ys_packed c)) (fun _ => rfl)) (.inl rfl))
  Prog.lift (.enqueueDma (ysSl c) (.remote (Dev.tc n) (yrSl l c) (.dma (ysSem c))) (.dma (yrSem l c)) (ysSl_words c) (yrSl_words l c) ⟨⟨rfl, Or.inl rfl⟩, trivial⟩)

def sendX (n : Dev nD) (l : Fin 3) (c : Fin 4) (v : FVec F S1x128x256 .bf16) : Prog (Eff F) PUnit := do
  let _ ← Prog.lift (.load xsM (xsR c).toLoadRect (View.loadsAt_vmem h_S1x128x256))
  Prog.lift (.store xsM (xsR c) v Finset.univ (View.stores_vmem h_S1x128x256 ((Memref.isWhole_whole cc0_scratch2).storeExact_slice rfl _ (xs_packed c)) (fun _ => rfl)) (.inl rfl))
  Prog.lift (.enqueueDma (xsSl c) (.remote (Dev.tc n) (xrSl l c) (.dma (xsSem c))) (.dma (xrSem l c)) (xsSl_words c) (xrSl_words l c) ⟨⟨rfl, Or.inl rfl⟩, trivial⟩)

/-- Wait for the landing of a slab and for the own transfer's read of its source, then read the landed slab. -/
def recvY (l : Fin 3) (c : Fin 4) : Prog (Eff F) (Vec F S1x1x128x512 .bf16) := do
  Prog.lift (.waitDma2 (yrSem l c) (ysSl c) (yrSl l c) (ysSl_words c) (yrSl_words l c))
  Prog.lift (.waitDma2 (ysSem c) (yrSl l c) (ysSl c) (yrSl_words l c) (ysSl_words c))
  Prog.lift (.load yrM (yrR l c).toLoadRect (View.loadsAt_vmem h_S1x1x128x512))

def recvX (l : Fin 3) (c : Fin 4) : Prog (Eff F) (Vec F S1x1x128x256 .bf16) := do
  Prog.lift (.waitDma2 (xrSem l c) (xsSl c) (xrSl l c) (xsSl_words c) (xrSl_words l c))
  Prog.lift (.waitDma2 (xsSem c) (xrSl l c) (xsSl c) (xrSl_words l c) (xsSl_words c))
  Prog.lift (.load xrM (xrR l c).toLoadRect (View.loadsAt_vmem h_S1x1x128x256))

def loadWin (l : Fin 3) : Prog (Eff F) (Vec F S256x512 .bf16) := Prog.lift (.load (winM l) winR.toLoadRect (View.loadsAt_vmem h_S256x512))
def loadWout (l : Fin 3) : Prog (Eff F) (Vec F S512x256 .bf16) := Prog.lift (.load (woutM l) woutR.toLoadRect (View.loadsAt_vmem h_S512x256))

/-! ## One chunk's steps -/

def stepP0 (n : Dev nD) (w : Vec F S256x512 .bf16) (c : Fin 4) : Prog (Eff F) (FVec F S128x512 .f32) := do
  let x ← Prog.lift (.load xM (rowR c).toLoadRect (View.loadsAt_vmem h_S128x256))
  sendY n 0 c (packY (partP0 (castWin w) x))
  pure (partP0 (castWin w) x)

def stepQ (n : Dev nD) (l : Fin 3) (w : Vec F S512x256 .bf16) (c : Fin 4) (p : FVec F S128x512 .f32) : Prog (Eff F) (FVec F S128x256 .f32) := do
  let v ← recvY l c
  sendX n l c (packX (partQ (castWout w) p v))
  pure (partQ (castWout w) p v)

/-- Chunk `c`'s first product of layer `l'`, the layer after `l`. -/
def stepP (n : Dev nD) (l l' : Fin 3) (w : Vec F S256x512 .bf16) (c : Fin 4) (q : FVec F S128x256 .f32) : Prog (Eff F) (FVec F S128x512 .f32) := do
  let v ← recvX l c
  sendY n l' c (packY (partP (castWin w) q v))
  pure (partP (castWin w) q v)

def stepOut (c : Fin 4) (q : FVec F S128x256 .f32) : Prog (Eff F) PUnit := do
  let v ← recvX 2 c
  let _ ← Prog.lift (.load oM (rowR c).toLoadRect (View.loadsAt_vmem h_S128x256))
  Prog.lift (.store oM (rowR c) (outRows q v) Finset.univ (View.stores_vmem_bits_univ h_S128x256 rfl) (.inl rfl))

/-! ## The body -/

/-- A step for each of the four chunks, in order. -/
def four {α : Type} (f : Fin 4 → Prog (Eff F) α) : Prog (Eff F) (Fin 4 → α) := do
  let a ← f 0
  let b ← f 1
  let c ← f 2
  let d ← f 3
  pure ![a, b, c, d]

def halfP0 (n : Dev nD) : Prog (Eff F) (Fin 4 → FVec F S128x512 .f32) := do
  let w ← loadWin 0
  four fun c => stepP0 n w c
def halfQ (n : Dev nD) (l : Fin 3) (p : Fin 4 → FVec F S128x512 .f32) : Prog (Eff F) (Fin 4 → FVec F S128x256 .f32) := do
  let w ← loadWout l
  four fun c => stepQ n l w c (p c)
def halfP (n : Dev nD) (l l' : Fin 3) (q : Fin 4 → FVec F S128x256 .f32) : Prog (Eff F) (Fin 4 → FVec F S128x512 .f32) := do
  let w ← loadWin l'
  four fun c => stepP n l l' w c (q c)
def lastOut (q : Fin 4 → FVec F S128x256 .f32) : Prog (Eff F) PUnit := do
  let _ ← four fun c => stepOut c (q c)
  pure ⟨⟩

/-- The handshake: a signal to each neighbour, then a wait for both of theirs. -/
def handshake (d : Dev nD) : Prog (Eff F) PUnit := do
  semSignalWord (yNb d) barS 1#32
  semSignalWord (xNb d) barS 1#32
  semWaitWord barS 2#32

/-- The whole body. -/
def body : Prog (Eff F) PUnit := do
  let d ← Prog.lift .deviceId
  handshake d
  let p ← halfP0 (yNb d)
  let q ← halfQ (xNb d) 0 p
  let p ← halfP (yNb d) 0 1 q
  let q ← halfQ (xNb d) 1 p
  let p ← halfP (yNb d) 1 2 q
  let q ← halfQ (xNb d) 2 p
  lastOut q

end Cert.KernelIdealRun

end
-- ==== Proof.KernelIdeal.BodyEq.lean ====
/-
The printed kernel body, at the launch's buffers and semaphores, is `body`: the exchanges of `Program` in sequence.
-/
module

public import proofs.«01_k».proof.Proof.KernelIdeal.Program

@[expose] public section

set_option maxRecDepth 65536

noncomputable section

namespace Cert.KernelIdealRun

open Cert.KernelIdeal Cert.KernelIdeal.Gen
open Idealize.ShloMosaic Idealize.SL.Sem

variable {F : FTy → Type} [FloatOps F]

set_option maxHeartbeats 4000000 in
/-- Both sides re-associated to one sequence of effects, which then agree effect by effect. -/
theorem body_eq :
    cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 = body := by
  simp (maxSteps := 10000000) only [cc0_body_eq_skeleton, cc0_body_skel,
      k0_part1_eq_skeleton, k0_part1_skel, k0_part2_eq_skeleton, k0_part2_skel, k0_part3_eq_skeleton, k0_part3_skel, k0_part4_eq_skeleton, k0_part4_skel,
      k0_part5_eq_skeleton, k0_part5_skel, k0_part6_eq_skeleton, k0_part6_skel, k0_part7_eq_skeleton, k0_part7_skel, k0_part8_eq_skeleton, k0_part8_skel,
      k0_part9_eq_skeleton, k0_part9_skel, k0_part10_eq_skeleton, k0_part10_skel, k0_part11_eq_skeleton, k0_part11_skel, k0_part12_eq_skeleton,
      k0_part12_skel, k0_part13_eq_skeleton, k0_part13_skel, k0_part14_eq_skeleton, k0_part14_skel, k0_part15_eq_skeleton, k0_part15_skel,
      k0_part16_eq_skeleton, k0_part16_skel, k0_part17_eq_skeleton, k0_part17_skel, k0_part18_eq_skeleton, k0_part18_skel, k0_part19_eq_skeleton,
      k0_part19_skel, k0_part20_eq_skeleton, k0_part20_skel, k0_part21_eq_skeleton, k0_part21_skel, k0_part22_eq_skeleton, k0_part22_skel,
      k0_part23_eq_skeleton, k0_part23_skel, k0_part24_eq_skeleton, k0_part24_skel, k0_part25_eq_skeleton, k0_part25_skel, k0_part26_eq_skeleton,
      k0_part26_skel, k0_part27_eq_skeleton, k0_part27_skel, k0_part28_eq_skeleton, k0_part28_skel, k0_part29_eq_skeleton, k0_part29_skel,
      k0_part30_eq_skeleton, k0_part30_skel, k0_part31_eq_skeleton, k0_part31_skel, k0_part32_eq_skeleton, k0_part32_skel, k0_part33_eq_skeleton,
      k0_part33_skel, k0_part34_eq_skeleton, k0_part34_skel, k0_part35_eq_skeleton, k0_part35_skel, k0_part36_eq_skeleton, k0_part36_skel,
      k0_part37_eq_skeleton, k0_part37_skel,
      semSignalWord, semWaitWord, Prog.lift, Prog.bind_op, Prog.bind_ret, Prog.pure_eq_ret,
      body, handshake, halfP0, halfQ, halfP, lastOut, four, stepP0, stepQ, stepP, stepOut, sendY, sendX, recvY, recvX, loadWin, loadWout,
      Matrix.cons_val_zero, Matrix.cons_val_one, Matrix.cons_val]
  rfl

end Cert.KernelIdealRun

end
-- ==== Proof.KernelIdeal.Contents.lean ====
/-
What each exchange carries.

From the devices' input blocks: the partial products of every layer and chunk on every device, each from the
device's own partial sum of the layer before and from the neighbour's, which arrives rounded to bf16.
-/
module

public import proofs.«01_k».proof.Proof.KernelIdeal.Program

@[expose] public section

set_option maxRecDepth 16384

noncomputable section

namespace Cert.KernelIdealRun

open Cert.KernelIdeal Cert.KernelIdeal.Gen
open Idealize.ShloMosaic Idealize.SL.Sem

variable {F : FTy → Type} [FloatOps F]

theorem yNb_yNb : ∀ d : Dev nD, yNb (yNb d) = d := by decide
theorem xNb_xNb : ∀ d : Dev nD, xNb (xNb d) = d := by decide

/-- The neighbour in a direction: `false` along `y`, `true` along `x`. -/
def nb : Bool → Dev nD → Dev nD
  | false => yNb
  | true => xNb

theorem nb_nb (b : Bool) (d : Dev nD) : nb b (nb b d) = d := by
  cases b
  · exact yNb_yNb d
  · exact xNb_xNb d

/-! ## The arithmetic on two-dimensional slabs -/

/-- A partial product rounded for sending. -/
def sentY (p : FVec F S128x512 .f32) : FVec F S128x512 .bf16 := truncf .bf16 p bitsLt_bf16_f32
def sentX (q : FVec F S128x256 .f32) : FVec F S128x256 .bf16 := truncf .bf16 q bitsLt_bf16_f32

/-- The own partial sum plus the landed one. -/
def sumY (p : FVec F S128x512 .f32) (s : FVec F S128x512 .bf16) : FVec F S128x512 .f32 := addf p (extf .f32 s bitsLt_bf16_f32)
def sumX (q : FVec F S128x256 .f32) (s : FVec F S128x256 .bf16) : FVec F S128x256 .f32 := addf q (extf .f32 s bitsLt_bf16_f32)

/-- A chunk times a first weight block; a chunk, clipped below at zero, times a second one. -/
def mulIn (w : Vec F S256x512 .bf16) (a : FVec F S128x256 .bf16) : FVec F S128x512 .f32 :=
  matmul dot_S128x256_S256x512_S128x512_1_0_0_1_n_n none a (castWin w) (constant S128x512 .f32 0x00000000#32)
def mulOut (w : Vec F S512x256 .bf16) (h : FVec F S128x512 .f32) : FVec F S128x256 .f32 :=
  matmul dot_S128x512_S512x256_S128x256_1_0_0_1_n_n none
    (truncf .bf16 (maximumf h (broadcast S128x512 (Scalar.ofBits .f32 0x00000000#32))) bitsLt_bf16_f32) (castWout w) (constant S128x256 .f32 0x00000000#32)

/-- Rows `128 c …` of a block. -/
def rowsOf (c : Fin 4) (x : Vec F S512x256 .bf16) : FVec F S128x256 .bf16 :=
  shapeCast S128x256 (fun i => x ((rowR c).emb i) : Vec F S128x256 .bf16) shapeCasts_S128x256_S128x256

theorem partQ_eq (w : Vec F S512x256 .bf16) (p : FVec F S128x512 .f32) (v : Vec F S1x1x128x512 .bf16) (s : FVec F S128x512 .bf16)
    (h : shapeCast S128x512 v shapeCasts_S1x1x128x512_S128x512 = s) : partQ (castWout w) p v = mulOut w (sumY p s) := by
  subst h; rfl
theorem partP_eq (w : Vec F S256x512 .bf16) (q : FVec F S128x256 .f32) (v : Vec F S1x1x128x256 .bf16) (s : FVec F S128x256 .bf16)
    (h : shapeCast S128x256 v shapeCasts_S1x1x128x256_S128x256 = s) :
    partP (castWin w) q v = mulIn w (truncf .bf16 (sumX q s) bitsLt_bf16_f32) := by
  subst h; rfl
theorem outRows_eq (q : FVec F S128x256 .f32) (v : Vec F S1x1x128x256 .bf16) (s : FVec F S128x256 .bf16)
    (h : shapeCast S128x256 v shapeCasts_S1x1x128x256_S128x256 = s) : outRows q v = sumX q s := by
  subst h; rfl

/-! ## The inputs and what is computed from them -/

/-- Every device's blocks: of `x`, and of each layer's two weights. -/
structure Inp (F : FTy → Type) where
  x : Dev nD → Vec F S512x256 .bf16
  wi : ℕ → Dev nD → Vec F S256x512 .bf16
  wo : ℕ → Dev nD → Vec F S512x256 .bf16

/-- The second partial products of layer `l` from the first ones `p`. -/
def Inp.second (I : Inp F) (l : ℕ) (p : Fin 4 → Dev nD → FVec F S128x512 .f32) (c : Fin 4) (d : Dev nD) : FVec F S128x256 .f32 :=
  mulOut (I.wo l d) (sumY (p c d) (sentY (p c (yNb d))))

/-- A layer's result on its way into the next: the own second partial sum plus the neighbour's. -/
def passed (q : Fin 4 → Dev nD → FVec F S128x256 .f32) (c : Fin 4) (d : Dev nD) : FVec F S128x256 .f32 :=
  sumX (q c d) (sentX (q c (xNb d)))

/-- The first partial product of layer `l`, chunk `c`, on device `d`. -/
def Inp.P (I : Inp F) : ℕ → Fin 4 → Dev nD → FVec F S128x512 .f32
  | 0, c, d => mulIn (I.wi 0 d) (rowsOf c (I.x d))
  | l + 1, c, d => mulIn (I.wi (l + 1) d) (truncf .bf16 (passed (I.second l (I.P l)) c d) bitsLt_bf16_f32)

/-- The second one. -/
def Inp.Q (I : Inp F) (l : ℕ) : Fin 4 → Dev nD → FVec F S128x256 .f32 := I.second l (I.P l)

/-- The result's rows of chunk `c` on device `d`. -/
def Inp.out (I : Inp F) (c : Fin 4) (d : Dev nD) : FVec F S128x256 .f32 := passed (I.Q 2) c d

theorem Inp.P_succ (I : Inp F) (l : ℕ) (c : Fin 4) (d : Dev nD) :
    I.P (l + 1) c d = mulIn (I.wi (l + 1) d) (truncf .bf16 (sumX (I.Q l c d) (sentX (I.Q l c (xNb d)))) bitsLt_bf16_f32) := rfl
theorem Inp.Q_eq (I : Inp F) (l : ℕ) (c : Fin 4) (d : Dev nD) :
    I.Q l c d = mulOut (I.wo l d) (sumY (I.P l c d) (sentY (I.P l c (yNb d)))) := rfl

end Cert.KernelIdealRun

end
-- ==== Proof.KernelIdeal.Slabs.lean ====
/-
The buffers held slab by slab.

A send buffer is its four slabs, a landing buffer its twelve, the result's staging buffer its four blocks of
rows. Each family is pairwise disjoint and covers the buffer, so the buffer held whole is the slabs held one by one.
-/
module

public import proofs.«01_k».proof.Proof.KernelIdeal.Contents
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.Pipeline.Value

@[expose] public section

set_option maxRecDepth 16384

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists)

variable {F : FTy → Type} [FloatOps F]

/-! ## The resource algebra: the pipeline's and the exchanges' own, with duty names `Bool` -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Element sets -/

theorem ys_set (c : Fin 4) : (ysSl c).view.set = (ysR c).set := (View.set_reshape _ _).trans (View.set_slice_whole _ _)
theorem xs_set (c : Fin 4) : (xsSl c).view.set = (xsR c).set := (View.set_reshape _ _).trans (View.set_slice_whole _ _)
theorem yr_set (l : Fin 3) (c : Fin 4) : (yrSl l c).view.set = (yrR l c).set := (View.set_reshape _ _).trans (View.set_slice_whole _ _)
theorem xr_set (l : Fin 3) (c : Fin 4) : (xrSl l c).view.set = (xrR l c).set := (View.set_reshape _ _).trans (View.set_slice_whole _ _)

theorem ys_access (c : Fin 4) : (ysM.access (ysR c)).set ⊆ (ysSl c).view.set := by rw [ys_set, View.set_slice_whole]
theorem xs_access (c : Fin 4) : (xsM.access (xsR c)).set ⊆ (xsSl c).view.set := by rw [xs_set, View.set_slice_whole]
theorem yr_access (l : Fin 3) (c : Fin 4) : (yrM.access (yrR l c)).set ⊆ (yrSl l c).view.set := by rw [yr_set, View.set_slice_whole]
theorem xr_access (l : Fin 3) (c : Fin 4) : (xrM.access (xrR l c)).set ⊆ (xrSl l c).view.set := by rw [xr_set, View.set_slice_whole]

section Families

variable {s : Shape} {B : Type} [Fintype B] [DecidableEq B] (I : B → Finset s.Idx) (key : s.Idx → B) (h : ∀ b i, i ∈ I b ↔ key i = b)

include h in
theorem keyed_disjoint (b b' : B) (hb : b ≠ b') : Disjoint (I b) (I b') := by
  rw [Finset.disjoint_left]
  intro i hi hi'
  exact hb (((h b i).mp hi).symm.trans ((h b' i).mp hi'))

include h in
theorem keyed_cover : Finset.univ.biUnion I = Finset.univ := by
  ext i
  simp only [Finset.mem_biUnion, Finset.mem_univ, true_and, iff_true]
  exact ⟨key i, (h _ i).mpr rfl⟩

end Families

theorem ys_key (c : Fin 4) (i : S4x128x512.Idx) : i ∈ (ysSl c).view.set ↔ i 0 = c := by
  rw [ys_set]
  refine Rect.mem_set_unit.trans ⟨fun h => ?_, fun h a => ?_⟩
  · have h0 : c.val ≤ (i 0).val ∧ (i 0).val < c.val + 1 := h 0
    exact Fin.ext (by omega)
  · subst h
    fin_cases a
    · exact ⟨le_refl _, Nat.lt_succ_self _⟩
    · exact ⟨Nat.zero_le _, by have := (i 1).isLt; simpa using this⟩
    · exact ⟨Nat.zero_le _, by have := (i 2).isLt; simpa using this⟩

theorem xs_key (c : Fin 4) (i : S4x128x256.Idx) : i ∈ (xsSl c).view.set ↔ i 0 = c := by
  rw [xs_set]
  refine Rect.mem_set_unit.trans ⟨fun h => ?_, fun h a => ?_⟩
  · have h0 : c.val ≤ (i 0).val ∧ (i 0).val < c.val + 1 := h 0
    exact Fin.ext (by omega)
  · subst h
    fin_cases a
    · exact ⟨le_refl _, Nat.lt_succ_self _⟩
    · exact ⟨Nat.zero_le _, by have := (i 1).isLt; simpa using this⟩
    · exact ⟨Nat.zero_le _, by have := (i 2).isLt; simpa using this⟩

theorem yr_key (lc : Fin 3 × Fin 4) (i : S3x4x128x512.Idx) : i ∈ (yrSl lc.1 lc.2).view.set ↔ ((i 0, i 1) : Fin 3 × Fin 4) = lc := by
  rw [yr_set]
  refine Rect.mem_set_unit.trans ⟨fun h => ?_, fun h a => ?_⟩
  · have h0 : lc.1.val ≤ (i 0).val ∧ (i 0).val < lc.1.val + 1 := h 0
    have h1 : lc.2.val ≤ (i 1).val ∧ (i 1).val < lc.2.val + 1 := h 1
    exact Prod.ext (Fin.ext (show (i 0).val = lc.1.val by omega)) (Fin.ext (show (i 1).val = lc.2.val by omega))
  · subst h
    fin_cases a
    · exact ⟨le_refl _, Nat.lt_succ_self _⟩
    · exact ⟨le_refl _, Nat.lt_succ_self _⟩
    · exact ⟨Nat.zero_le _, by have := (i 2).isLt; simpa using this⟩
    · exact ⟨Nat.zero_le _, by have := (i 3).isLt; simpa using this⟩

theorem xr_key (lc : Fin 3 × Fin 4) (i : S3x4x128x256.Idx) : i ∈ (xrSl lc.1 lc.2).view.set ↔ ((i 0, i 1) : Fin 3 × Fin 4) = lc := by
  rw [xr_set]
  refine Rect.mem_set_unit.trans ⟨fun h => ?_, fun h a => ?_⟩
  · have h0 : lc.1.val ≤ (i 0).val ∧ (i 0).val < lc.1.val + 1 := h 0
    have h1 : lc.2.val ≤ (i 1).val ∧ (i 1).val < lc.2.val + 1 := h 1
    exact Prod.ext (Fin.ext (show (i 0).val = lc.1.val by omega)) (Fin.ext (show (i 1).val = lc.2.val by omega))
  · subst h
    fin_cases a
    · exact ⟨le_refl _, Nat.lt_succ_self _⟩
    · exact ⟨le_refl _, Nat.lt_succ_self _⟩
    · exact ⟨Nat.zero_le _, by have := (i 2).isLt; simpa using this⟩
    · exact ⟨Nat.zero_le _, by have := (i 3).isLt; simpa using this⟩

theorem ys_disjoint : ∀ c c' : Fin 4, c ≠ c' → Disjoint (ysSl c).view.set (ysSl c').view.set := keyed_disjoint (s := S4x128x512) (fun c : Fin 4 => (ysSl c).view.set) _ ys_key
theorem ys_cover : Finset.biUnion (β := S4x128x512.Idx) Finset.univ (fun c : Fin 4 => (ysSl c).view.set) = Finset.univ := keyed_cover (s := S4x128x512) (fun c : Fin 4 => (ysSl c).view.set) _ ys_key
theorem xs_disjoint : ∀ c c' : Fin 4, c ≠ c' → Disjoint (xsSl c).view.set (xsSl c').view.set := keyed_disjoint (s := S4x128x256) (fun c : Fin 4 => (xsSl c).view.set) _ xs_key
theorem xs_cover : Finset.biUnion (β := S4x128x256.Idx) Finset.univ (fun c : Fin 4 => (xsSl c).view.set) = Finset.univ := keyed_cover (s := S4x128x256) (fun c : Fin 4 => (xsSl c).view.set) _ xs_key
theorem yr_disjoint : ∀ lc lc' : Fin 3 × Fin 4, lc ≠ lc' → Disjoint (yrSl lc.1 lc.2).view.set (yrSl lc'.1 lc'.2).view.set := keyed_disjoint (s := S3x4x128x512) (fun lc : Fin 3 × Fin 4 => (yrSl lc.1 lc.2).view.set) _ yr_key
theorem yr_cover : Finset.biUnion (β := S3x4x128x512.Idx) Finset.univ (fun lc : Fin 3 × Fin 4 => (yrSl lc.1 lc.2).view.set) = Finset.univ := keyed_cover (s := S3x4x128x512) (fun lc : Fin 3 × Fin 4 => (yrSl lc.1 lc.2).view.set) _ yr_key
theorem xr_disjoint : ∀ lc lc' : Fin 3 × Fin 4, lc ≠ lc' → Disjoint (xrSl lc.1 lc.2).view.set (xrSl lc'.1 lc'.2).view.set := keyed_disjoint (s := S3x4x128x256) (fun lc : Fin 3 × Fin 4 => (xrSl lc.1 lc.2).view.set) _ xr_key
theorem xr_cover : Finset.biUnion (β := S3x4x128x256.Idx) Finset.univ (fun lc : Fin 3 × Fin 4 => (xrSl lc.1 lc.2).view.set) = Finset.univ := keyed_cover (s := S3x4x128x256) (fun lc : Fin 3 × Fin 4 => (xrSl lc.1 lc.2).view.set) _ xr_key

/-- The chunk a row of the result lies in. -/
def chunkOf (i : S512x256.Idx) : Fin 4 := ⟨(i 0).val / 128, by have := (i 0).isLt; simp at this; omega⟩

theorem row_key (c : Fin 4) (i : S512x256.Idx) : i ∈ (oM.access (rowR c)).set ↔ chunkOf i = c := by
  rw [View.set_slice_whole]
  refine Rect.mem_set_unit.trans ⟨fun h => ?_, fun h a => ?_⟩
  · have h0 := h 0
    exact Fin.ext (by simp [Shape.size, chunkOf] at h0 ⊢; omega)
  · subst h
    fin_cases a
    · simp [Shape.size, chunkOf]; omega
    · exact ⟨Nat.zero_le _, by have := (i 1).isLt; simpa using this⟩

/-! ## Slabs held -/

/-- A slab at some contents: of the send buffer of a direction, of its landing buffer. -/
def srcFree (d : Dev nD) (c : Fin 4) : Bool → sProp 𝕄
  | false => iprop(∃ f, (ysSl c).view.loc (d : Thread nD τ) ↦[(ysSl c).view.set]{fullShare} f)
  | true => iprop(∃ f, (xsSl c).view.loc (d : Thread nD τ) ↦[(xsSl c).view.set]{fullShare} f)
def dstFree (d : Dev nD) (l : Fin 3) (c : Fin 4) : Bool → sProp 𝕄
  | false => iprop(∃ f, (yrSl l c).view.loc (d : Thread nD τ) ↦[(yrSl l c).view.set]{fullShare} f)
  | true => iprop(∃ f, (xrSl l c).view.loc (d : Thread nD τ) ↦[(xrSl l c).view.set]{fullShare} f)

/-- A landed slab on device `d`: it reads what the neighbour sent. -/
def landed (I : Inp F) (d : Dev nD) (l : Fin 3) (c : Fin 4) : Bool → sProp 𝕄
  | false => owns (d : Thread nD τ) (yrSl l c) fullShare (sentY (I.P l.val c (yNb d)))
  | true => owns (d : Thread nD τ) (xrSl l c) fullShare (sentX (I.Q l.val c (xNb d)))

omit [FloatOps F] in
instance srcFree_storable (d : Dev nD) (c : Fin 4) (b : Bool) : BI.Storable (upEmb : UEmb _ 𝕄) (srcFree (F := F) d c b) := by
  cases b <;> (unfold srcFree; infer_instance)
omit [FloatOps F] in
instance dstFree_storable (d : Dev nD) (l : Fin 3) (c : Fin 4) (b : Bool) : BI.Storable (upEmb : UEmb _ 𝕄) (dstFree (F := F) d l c b) := by
  cases b <;> (unfold dstFree; infer_instance)
instance landed_storable (I : Inp F) (d : Dev nD) (l : Fin 3) (c : Fin 4) (b : Bool) : BI.Storable (upEmb : UEmb _ 𝕄) (landed I d l c b) := by
  cases b <;> (unfold landed; infer_instance)

theorem landed_free (I : Inp F) (d : Dev nD) (l : Fin 3) (c : Fin 4) (b : Bool) : (landed I d l c b : sProp 𝕄) ⊢ dstFree d l c b := by
  cases b <;>
  · unfold landed dstFree owns
    iintro ⟨%f, -, H⟩
    iexists f; iexact H

/-- The send buffer and the landing buffer of a direction, whole. -/
def srcBuf (d : Dev nD) : Bool → sProp 𝕄
  | false => iprop(∃ f : Buf (Elt F) ((d : Thread nD τ).loc cc0_scratch0), ((d : Thread nD τ).loc cc0_scratch0) ↦{fullShare} f)
  | true => iprop(∃ f : Buf (Elt F) ((d : Thread nD τ).loc cc0_scratch2), ((d : Thread nD τ).loc cc0_scratch2) ↦{fullShare} f)
def dstBuf (d : Dev nD) : Bool → sProp 𝕄
  | false => iprop(∃ f : Buf (Elt F) ((d : Thread nD τ).loc cc0_scratch1), ((d : Thread nD τ).loc cc0_scratch1) ↦{fullShare} f)
  | true => iprop(∃ f : Buf (Elt F) ((d : Thread nD τ).loc cc0_scratch3), ((d : Thread nD τ).loc cc0_scratch3) ↦{fullShare} f)

section Split

variable {ℓ : Loc nD τ sig} {B : Type} [Fintype B] [DecidableEq B] (S : B → Finset (Idx ℓ))
  (hd : ∀ b b', b ≠ b' → Disjoint (S b) (S b')) (hc : Finset.univ.biUnion S = Finset.univ)

omit [FloatOps F] in
include hd hc in
theorem split_free : (iprop(∃ f, ℓ ↦{fullShare} f) : sProp 𝕄) ⊢ bigSep Finset.univ fun b => iprop(∃ f, ℓ ↦[S b]{fullShare} f) := by
  iintro ⟨%f, H⟩
  have hm : ∀ b ∈ (Finset.univ : Finset B), (ℓ ↦[S b]{fullShare} f : sProp 𝕄) ⊢ iprop(∃ f, ℓ ↦[S b]{fullShare} f) := fun b _ => by
    iintro H; iexists f; iexact H
  have h : (ℓ ↦{fullShare} f : sProp 𝕄) ⊢ bigSep Finset.univ fun b => iprop(∃ f, ℓ ↦[S b]{fullShare} f) :=
    (Entails.of_eq (pointsTo_blocks S hd hc f)).trans (bigSep_mono hm)
  iapply h; iexact H

end Split

omit [FloatOps F] in
theorem srcBuf_split (d : Dev nD) (b : Bool) : (srcBuf d b : sProp 𝕄) ⊢ bigSep Finset.univ fun c => srcFree d c b := by
  cases b
  · exact split_free (ℓ := (d : Thread nD τ).loc cc0_scratch0) (fun c => (ysSl c).view.set) ys_disjoint ys_cover
  · exact split_free (ℓ := (d : Thread nD τ).loc cc0_scratch2) (fun c => (xsSl c).view.set) xs_disjoint xs_cover
omit [FloatOps F] in
theorem dstBuf_split (d : Dev nD) (b : Bool) : (dstBuf d b : sProp 𝕄) ⊢ bigSep Finset.univ fun lc : Fin 3 × Fin 4 => dstFree d lc.1 lc.2 b := by
  cases b
  · exact split_free (ℓ := (d : Thread nD τ).loc cc0_scratch1) (fun lc : Fin 3 × Fin 4 => (yrSl lc.1 lc.2).view.set) yr_disjoint yr_cover
  · exact split_free (ℓ := (d : Thread nD τ).loc cc0_scratch3) (fun lc : Fin 3 × Fin 4 => (xrSl lc.1 lc.2).view.set) xr_disjoint xr_cover
theorem srcBuf_join (d : Dev nD) (b : Bool) : bigSep Finset.univ (fun c => srcFree d c b) ⊢ (srcBuf d b : sProp 𝕄) := by
  cases b
  · exact pointsTo_blocks_join_exists (ℓ := (d : Thread nD τ).loc cc0_scratch0) (fun c => (ysSl c).view.set) ys_disjoint ys_cover (fun _ => Classical.arbitrary _)
  · exact pointsTo_blocks_join_exists (ℓ := (d : Thread nD τ).loc cc0_scratch2) (fun c => (xsSl c).view.set) xs_disjoint xs_cover (fun _ => Classical.arbitrary _)
theorem dstBuf_join (d : Dev nD) (b : Bool) : bigSep Finset.univ (fun lc : Fin 3 × Fin 4 => dstFree d lc.1 lc.2 b) ⊢ (dstBuf d b : sProp 𝕄) := by
  cases b
  · exact pointsTo_blocks_join_exists (ℓ := (d : Thread nD τ).loc cc0_scratch1) (fun lc : Fin 3 × Fin 4 => (yrSl lc.1 lc.2).view.set) yr_disjoint yr_cover (fun _ => Classical.arbitrary _)
  · exact pointsTo_blocks_join_exists (ℓ := (d : Thread nD τ).loc cc0_scratch3) (fun lc : Fin 3 × Fin 4 => (xrSl lc.1 lc.2).view.set) xr_disjoint xr_cover (fun _ => Classical.arbitrary _)

/-! ## What a slab reads -/

omit [FloatOps F] in
theorem read_ys (c : Fin 4) (f : (ysSl c).view.ty.Contents (Elt F)) :
    (ysSl c).view.read (Elt F) f = shapeCast S128x512 ((ysM.access (ysR c)).read (Elt F) f) (Shape.Squeezes.numel_eq squeezes_S1x128x512_S128x512) := rfl
omit [FloatOps F] in
theorem read_yr (l : Fin 3) (c : Fin 4) (f : (yrSl l c).view.ty.Contents (Elt F)) :
    shapeCast S128x512 ((yrM.access (yrR l c)).read (Elt F) f) shapeCasts_S1x1x128x512_S128x512 = (yrSl l c).view.read (Elt F) f := rfl
omit [FloatOps F] in
theorem read_xr (l : Fin 3) (c : Fin 4) (f : (xrSl l c).view.ty.Contents (Elt F)) :
    shapeCast S128x256 ((xrM.access (xrR l c)).read (Elt F) f) shapeCasts_S1x1x128x256_S128x256 = (xrSl l c).view.read (Elt F) f := rfl

/-- A send slab, after the store of a packed partial product, reads it rounded. -/
theorem read_store_ys (c : Fin 4) (f : (ysSl c).view.ty.Contents (Elt F)) (p : FVec F S128x512 .f32) :
    (ysSl c).view.read (Elt F) ((ysM.access (ysR c)).write (Elt F) f (packY p) Finset.univ) = sentY p := by
  rw [show (ysSl c).view.read (Elt F) ((ysM.access (ysR c)).write (Elt F) f (packY p) Finset.univ)
    = shapeCast S128x512 ((ysM.access (ysR c)).read (Elt F) ((ysM.access (ysR c)).write (Elt F) f (packY p) Finset.univ))
      (Shape.Squeezes.numel_eq squeezes_S1x128x512_S128x512) from rfl, View.read_write_univ]
  exact shapeCast_shapeCast _ _ _
theorem read_store_xs (c : Fin 4) (f : (xsSl c).view.ty.Contents (Elt F)) (q : FVec F S128x256 .f32) :
    (xsSl c).view.read (Elt F) ((xsM.access (xsR c)).write (Elt F) f (packX q) Finset.univ) = sentX q := by
  rw [show (xsSl c).view.read (Elt F) ((xsM.access (xsR c)).write (Elt F) f (packX q) Finset.univ)
    = shapeCast S128x256 ((xsM.access (xsR c)).read (Elt F) ((xsM.access (xsR c)).write (Elt F) f (packX q) Finset.univ))
      (Shape.Squeezes.numel_eq squeezes_S1x128x256_S128x256) from rfl, View.read_write_univ]
  exact shapeCast_shapeCast _ _ _

end Cert.KernelIdealRun

end
-- ==== Proof.KernelIdeal.Protocol.lean ====
/-
The protocol of the semaphores.

A device has thirty-three cells: its barrier, a DMA cell per send slab (direction and chunk) and a DMA cell per
landing slab (direction, layer and chunk). A barrier cell is paid by both neighbours, each handing over its
landing buffer of their common direction. A send cell has a round per layer and gives the source slab back. A
landing cell has one round and gives the slab, holding what the neighbour sent. Levels order the waits: the
barrier first, then the landing cells by layer and direction.
-/
module

public import proofs.«01_k».proof.Proof.KernelIdeal.Slabs

@[expose] public section

set_option maxRecDepth 16384
set_option synthInstance.maxSize 1024

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells -/

/-- A device's cells: the barrier; a send cell per direction and chunk; a landing cell per direction, layer and chunk. -/
abbrev CellIx : Type := Unit ⊕ (Bool × Fin 4) ⊕ (Bool × Fin 3 × Fin 4)

abbrev barIx : CellIx := .inl ()
abbrev sndIx (b : Bool) (c : Fin 4) : CellIx := .inr (.inl (b, c))
abbrev rcvIx (b : Bool) (l : Fin 3) (c : Fin 4) : CellIx := .inr (.inr (b, l, c))

/-- The semaphore of a cell. -/
def semOf : CellIx → SemLoc sig
  | .inl _ => .reg barS
  | .inr (.inl (false, c)) => .dma (ysSem c)
  | .inr (.inl (true, c)) => .dma (xsSem c)
  | .inr (.inr (false, l, c)) => .dma (yrSem l c)
  | .inr (.inr (true, l, c)) => .dma (xrSem l c)

def allIx : List CellIx :=
  barIx :: ((List.product [false, true] (List.finRange 4)).map fun p => sndIx p.1 p.2)
    ++ (List.product [false, true] (List.product (List.finRange 3) (List.finRange 4))).map fun p => rcvIx p.1 p.2.1 p.2.2

/-- The cell of a semaphore, if it is one of the kernel's. -/
def ixOf (s : SemLoc sig) : Option CellIx := allIx.find? fun i => decide (semOf i = s)

theorem ixOf_semOf_decided : ∀ i : CellIx, (ixOf (semOf i)).elim false (fun j => decide (j = i)) = true := by
  rintro (⟨⟨⟩⟩ | ⟨b, c⟩ | ⟨b, l, c⟩)
  · decide +kernel
  · revert b c; decide +kernel
  · revert b l c; decide +kernel

theorem ixOf_semOf (i : CellIx) : ixOf (semOf i) = some i := by
  have h := ixOf_semOf_decided i
  cases hi : ixOf (semOf i) with
  | none => rw [hi] at h; exact absurd h Bool.false_ne_true
  | some j => rw [hi] at h; exact congrArg some (of_decide_eq_true h)

theorem semOf_injective : Function.Injective semOf := fun i j h =>
  Option.some.inj ((ixOf_semOf i).symm.trans ((congrArg ixOf h).trans (ixOf_semOf j)))

abbrev cell (d : Dev nD) (i : CellIx) : GSem nD τ sig := ((d : Thread nD τ), semOf i)

theorem cell_inj {d d' : Dev nD} {i i' : CellIx} (h : cell d i = cell d' i') : d = d' ∧ i = i' :=
  ⟨Fin.ext (congrArg (fun g : GSem nD τ sig => g.1.1.val) h), semOf_injective (congrArg Prod.snd h)⟩

/-- What a transfer of a direction credits. -/
def credit : Bool → ℕ
  | false => (yrSl 0 0).view.dmaCredit
  | true => (xrSl 0 0).view.dmaCredit

theorem credit_pos (b : Bool) : 0 < credit b := by
  cases b
  · exact View.dmaCredit_pos _ (by decide)
  · exact View.dmaCredit_pos _ (by decide)

theorem credit_yr (l : Fin 3) (c : Fin 4) : (yrSl l c).view.dmaCredit = credit false := rfl
theorem credit_xr (l : Fin 3) (c : Fin 4) : (xrSl l c).view.dmaCredit = credit true := rfl
theorem credit_ys (c : Fin 4) : (ysSl c).view.dmaCredit = credit false := rfl
theorem credit_xs (c : Fin 4) : (xsSl c).view.dmaCredit = credit true := rfl

/-! ## The schedule -/

def dutiesAt : CellIx → ℕ → Finset Bool
  | .inl _, r => if r = 0 then Finset.univ else ∅
  | .inr (.inl _), r => if r < 3 then {false} else ∅
  | .inr (.inr _), r => if r = 0 then {false} else ∅

def amountAt : CellIx → ℕ
  | .inl _ => 1
  | .inr (.inl (b, _)) => credit b
  | .inr (.inr (b, _)) => credit b

/-- The landing buffer of a direction, slab by slab. -/
def dstAll (d : Dev nD) (b : Bool) : sProp 𝕄 := bigSep Finset.univ fun lc : Fin 3 × Fin 4 => dstFree d lc.1 lc.2 b

/-- What a duty hands to device `d`. -/
def payAt (I : Inp F) (d : Dev nD) : CellIx → Bool → sProp 𝕄
  | .inl _, b => dstAll (nb b d) b
  | .inr (.inl (b, c)), _ => srcFree d c b
  | .inr (.inr (b, l, c)), _ => landed I d l c b

theorem amountAt_pos (i : CellIx) : 0 < amountAt i := by
  rcases i with _ | ⟨b, c⟩ | ⟨b, l, c⟩
  · exact Nat.one_pos
  · exact credit_pos b
  · exact credit_pos b

variable (I : Inp F)

def sched : Rounds.Schedule (GSem nD τ sig) Bool 𝕄 where
  duties g r := if g.1.2 = .tc then (ixOf g.2).elim ∅ fun i => dutiesAt i r else ∅
  unitless _ := False
  amount g _ _ := (ixOf g.2).elim 1 amountAt
  payload g _ b := (ixOf g.2).elim iprop(emp) fun i => payAt I g.1.1 i b
  amount_pos g _ _ _ := by
    cases ixOf g.2 with
    | none => exact Nat.one_pos
    | some i => exact amountAt_pos i

instance payAt_storable (d : Dev nD) (i : CellIx) (b : Bool) : BI.Storable (upEmb : UEmb _ 𝕄) (payAt I d i b) := by
  rcases i with _ | ⟨b', c⟩ | ⟨b', l, c⟩ <;> (unfold payAt; try unfold dstAll) <;> infer_instance

instance sched_payload_storable (g : GSem nD τ sig) (r : ℕ) (b : Bool) : BI.Storable (upEmb : UEmb _ 𝕄) ((sched I).payload g r b) := by
  show BI.Storable (upEmb : UEmb _ 𝕄) ((ixOf g.2).elim iprop(emp) fun i => payAt I g.1.1 i b)
  cases ixOf g.2 with
  | none => dsimp only [Option.elim]; infer_instance
  | some i => dsimp only [Option.elim]; infer_instance

theorem sched_duties (d : Dev nD) (i : CellIx) (r : ℕ) : (sched I).duties (cell d i) r = dutiesAt i r := by
  dsimp only [sched]; rw [if_pos rfl, ixOf_semOf]; rfl
theorem sched_amount (d : Dev nD) (i : CellIx) (r : ℕ) (b : Bool) : (sched I).amount (cell d i) r b = amountAt i := by
  dsimp only [sched]; rw [ixOf_semOf]; rfl
theorem sched_payload (d : Dev nD) (i : CellIx) (r : ℕ) (b : Bool) : (sched I).payload (cell d i) r b = payAt I d i b := by
  dsimp only [sched]; rw [ixOf_semOf]; rfl

theorem snd_duties (d : Dev nD) (b : Bool) (l : Fin 3) (c : Fin 4) : (sched I).duties (cell d (sndIx b c)) l.val = {false} :=
  (sched_duties I d _ _).trans (if_pos l.isLt)
theorem rcv_duties (d : Dev nD) (b : Bool) (l : Fin 3) (c : Fin 4) : (sched I).duties (cell d (rcvIx b l c)) 0 = {false} :=
  (sched_duties I d _ _).trans rfl
theorem bar_duties (d : Dev nD) : (sched I).duties (cell d barIx) 0 = Finset.univ := (sched_duties I d _ _).trans rfl

theorem snd_expect (d : Dev nD) (b : Bool) (l : Fin 3) (c : Fin 4) : (sched I).expect (cell d (sndIx b c)) l.val = credit b := by
  unfold Schedule.expect Schedule.amountOf; rw [snd_duties, Finset.sum_singleton, sched_amount]; rfl
theorem rcv_expect (d : Dev nD) (b : Bool) (l : Fin 3) (c : Fin 4) : (sched I).expect (cell d (rcvIx b l c)) 0 = credit b := by
  unfold Schedule.expect Schedule.amountOf; rw [rcv_duties, Finset.sum_singleton, sched_amount]; rfl
theorem bar_expect (d : Dev nD) : (sched I).expect (cell d barIx) 0 = 2 := by
  unfold Schedule.expect Schedule.amountOf
  rw [bar_duties, Finset.sum_congr rfl fun b _ => sched_amount I d barIx 0 b]; rfl

/-- What the wait on a cell brings. -/
theorem snd_rest (d : Dev nD) (b : Bool) (l : Fin 3) (c : Fin 4) :
    bigSep ((sched I).duties (cell d (sndIx b c)) l.val \ ∅) (fun e => (sched I).payload (cell d (sndIx b c)) l.val e) = srcFree d c b := by
  rw [Finset.sdiff_empty, snd_duties, bigSep_singleton, sched_payload]; rfl
theorem rcv_rest (d : Dev nD) (b : Bool) (l : Fin 3) (c : Fin 4) :
    bigSep ((sched I).duties (cell d (rcvIx b l c)) 0 \ ∅) (fun e => (sched I).payload (cell d (rcvIx b l c)) 0 e) = landed I d l c b := by
  rw [Finset.sdiff_empty, rcv_duties, bigSep_singleton, sched_payload]; rfl
theorem bar_rest (d : Dev nD) :
    bigSep ((sched I).duties (cell d barIx) 0 \ ∅) (fun e => (sched I).payload (cell d barIx) 0 e)
      = iprop(dstAll (nb false d) false ∗ dstAll (nb true d) true) := by
  rw [Finset.sdiff_empty, bar_duties, bigSep_univ_eq_bigSepL [false, true] (by decide) (by decide), bigSepL_cons_cons, bigSepL_singleton,
    sched_payload, sched_payload]; rfl

/-- The round after which a cell is closed. -/
def lastRound : CellIx → ℕ
  | .inl _ => 1
  | .inr (.inl _) => 3
  | .inr (.inr _) => 1

theorem duties_later (d : Dev nD) (i : CellIx) : ∀ r, lastRound i ≤ r → (sched I).duties (cell d i) r = ∅ := fun r hr => by
  rw [sched_duties]
  rcases i with _ | ⟨b, c⟩ | ⟨b, l, c⟩ <;> simp only [lastRound] at hr <;> exact if_neg (by omega)

/-! ## What is owed: the landing credits of the twenty-four transfers, in program order -/

/-- The `n`-th transfer: its direction, layer and chunk. -/
def stepIx (n : ℕ) : Bool × Fin 3 × Fin 4 :=
  (decide (n / 4 % 2 = 1), ⟨n / 8 % 3, Nat.mod_lt _ (by decide)⟩, ⟨n % 4, Nat.mod_lt _ (by decide)⟩)

def stepCell (d : Dev nD) (n : ℕ) : GSem nD τ sig := cell (nb (stepIx n).1 d) (.inr (.inr (stepIx n)))
def stepTally (d : Dev nD) (n : ℕ) : CellTallies nD τ sig Unit := tallyAt (stepCell d n) () (credit (stepIx n).1)

/-- What is owed while the last `k` transfers are still to be started. -/
def rem (d : Dev nD) : ℕ → CellTallies nD τ sig Unit
  | 0 => 0
  | k + 1 => rem d k + stepTally d (23 - k)

/-- The number of transfers still to be started just before the one of `(b, l, c)`. -/
def left (b : Bool) (l : Fin 3) (c : ℕ) : ℕ := 24 - (8 * l.val + 4 * b.toNat + c)

theorem stepIx_left : ∀ (b : Bool) (l : Fin 3) (c : Fin 4), stepIx (23 - left b l (c.val + 1)) = (b, l, c) := by decide
theorem left_succ : ∀ (b : Bool) (l : Fin 3) (c : Fin 4), left b l c.val = left b l (c.val + 1) + 1 := by decide

theorem rem_left (d : Dev nD) (b : Bool) (l : Fin 3) (c : Fin 4) :
    rem d (left b l c.val) = rem d (left b l (c.val + 1)) + tallyAt (cell (nb b d) (rcvIx b l c)) () (credit b) := by
  rw [left_succ]; show rem d (left b l (c.val + 1)) + stepTally d (23 - left b l (c.val + 1)) = _
  unfold stepTally stepCell; rw [stepIx_left]

/-- What is owed at launch: a unit to each neighbour's barrier, and every landing credit. -/
def owed1 (d : Dev nD) : CellTallies nD τ sig Unit := rem d 24 + tallyAt (cell (nb true d) barIx) () 1
def owed0 (d : Dev nD) : CellTallies nD τ sig Unit := owed1 d + tallyAt (cell (nb false d) barIx) () 1

/-! ## Levels -/

def lvlAt : CellIx → ℕ
  | .inl _ => 1
  | .inr (.inl _) => 0
  | .inr (.inr (b, l, _)) => 2 + 2 * l.val + b.toNat

def lv (g : GSem nD τ sig) (_ : Unit) : ℕ := (ixOf g.2).elim 0 lvlAt
def L (g : GSem nD τ sig) : Finset Unit := if g.1.2 = .tc then {()} else ∅

theorem L_of_ne (g : GSem nD τ sig) (h : g.1.2 ≠ .tc) : L g = ∅ := if_neg h
theorem L_tc (d : Dev nD) (s : SemLoc sig) : L ((d : Thread nD τ), s) = {()} := if_pos rfl
theorem lv_cell (d : Dev nD) (i : CellIx) (u : Unit) : lv (cell d i) u = lvlAt i := by unfold lv; rw [ixOf_semOf]; rfl

theorem step_lvl : ∀ n : Fin 24, lvlAt (.inr (.inr (stepIx n.val))) = 2 + n.val / 4 := by decide

theorem rem_pos {d : Dev nD} {k : ℕ} (hk : k ≤ 24) {g : GSem nD τ sig} {u : Unit} (h : 0 < rem d k g u) :
    ∃ n : Fin 24, 24 - k ≤ n.val ∧ g = stepCell d n.val := by
  induction k with
  | zero => exact absurd h (Nat.lt_irrefl 0)
  | succ k ih =>
    rw [show rem d (k + 1) = rem d k + stepTally d (23 - k) from rfl, Pi.add_apply, Finsupp.add_apply] at h
    by_cases h0 : 0 < rem d k g u
    · obtain ⟨n, hn, hg⟩ := ih (by omega) h0
      exact ⟨n, by omega, hg⟩
    · have h1 : 0 < stepTally d (23 - k) g u := by omega
      unfold stepTally at h1
      rw [tallyAt_apply] at h1
      by_cases h2 : g = stepCell d (23 - k) ∧ u = ()
      · exact ⟨⟨23 - k, by omega⟩, by show 24 - (k + 1) ≤ 23 - k; omega, h2.1⟩
      · rw [if_neg h2] at h1; exact absurd h1 (Nat.lt_irrefl 0)

theorem owed0_pos {d : Dev nD} {g : GSem nD τ sig} {u : Unit} (h : 0 < owed0 d g u) :
    (∃ n : Fin 24, g = stepCell d n.val) ∨ ∃ b, g = cell (nb b d) barIx := by
  unfold owed0 owed1 at h
  rw [Pi.add_apply, Finsupp.add_apply, Pi.add_apply, Finsupp.add_apply, tallyAt_apply, tallyAt_apply] at h
  by_cases h1 : g = cell (nb true d) barIx ∧ u = ()
  · exact .inr ⟨true, h1.1⟩
  by_cases h2 : g = cell (nb false d) barIx ∧ u = ()
  · exact .inr ⟨false, h2.1⟩
  rw [if_neg h1, if_neg h2] at h
  obtain ⟨n, -, hn⟩ := rem_pos (le_refl 24) (show 0 < rem d 24 g u from h)
  exact .inl ⟨n, hn⟩

omit [FloatOps F] in
/-- A wait on a semaphore whose level is below every transfer still owed is allowed. -/
theorem mayWait_rem (d : Dev nD) (s : SemLoc sig) (k m : ℕ) (hk : k ≤ 24) (hs : lv ((d : Thread nD τ), s) () ≤ m) (hm : m < 2 + (24 - k) / 4) :
    (levAts L lv : sProp 𝕄) ⊢ MayWait (d : Thread nD τ) s () (rem d k) :=
  MayOwe.of_cut (L := L) (lev := lv) m (fun p hp => by rw [Finset.mem_singleton.mp hp, L_tc]; exact Finset.mem_singleton_self _)
    (fun g u hg => by obtain ⟨n, -, rfl⟩ := rem_pos hk hg; unfold stepCell; rw [L_tc]; exact Finset.mem_singleton_self _)
    (fun p hp => by rw [Finset.mem_singleton.mp hp]; exact hs)
    (fun g u hg => by
      obtain ⟨n, hn, rfl⟩ := rem_pos hk hg
      unfold stepCell; rw [lv_cell, step_lvl]; omega)

omit [FloatOps F] in
/-- A wait on a semaphore of level zero is allowed at launch. -/
theorem mayWait_owed0 (d : Dev nD) (s : SemLoc sig) (hs : lv ((d : Thread nD τ), s) () = 0) :
    (levAts L lv : sProp 𝕄) ⊢ MayWait (d : Thread nD τ) s () (owed0 d) :=
  MayOwe.of_cut (L := L) (lev := lv) 0 (fun p hp => by rw [Finset.mem_singleton.mp hp, L_tc]; exact Finset.mem_singleton_self _)
    (fun g u hg => by
      rcases owed0_pos hg with ⟨n, rfl⟩ | ⟨b, rfl⟩
      · unfold stepCell; rw [L_tc]; exact Finset.mem_singleton_self _
      · rw [L_tc]; exact Finset.mem_singleton_self _)
    (fun p hp => by rw [Finset.mem_singleton.mp hp]; exact hs.le)
    (fun g u hg => by
      rcases owed0_pos hg with ⟨n, rfl⟩ | ⟨b, rfl⟩
      · unfold stepCell; rw [lv_cell, step_lvl]; omega
      · rw [lv_cell]; exact Nat.one_pos)

theorem lv_snd (d : Dev nD) (b : Bool) (c : Fin 4) : lv (cell d (sndIx b c)) () = 0 := lv_cell d _ _
theorem lv_rcv (d : Dev nD) (b : Bool) (l : Fin 3) (c : Fin 4) : lv (cell d (rcvIx b l c)) () = 2 + 2 * l.val + b.toNat := lv_cell d _ _
theorem lv_bar (d : Dev nD) : lv (cell d barIx) () = 1 := lv_cell d _ _

end Cert.KernelIdealRun

end
-- ==== Proof.KernelIdeal.Exchange.lean ====
/-
One exchange of one slab.

A send turns a pending slab (its landing slab on the neighbour, the duties to pay, the credit to come) and an
idle send slab into a transfer on its way; a receive turns the transfer on its way into the landed slab and the
send slab idle again, a round later.
-/
module

public import proofs.«01_k».proof.Proof.KernelIdeal.Protocol

@[expose] public section

set_option maxRecDepth 16384
set_option synthInstance.maxSize 1024

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a stretch of device `d`'s body. -/
abbrev run (d : Dev nD) {α : Type} (p : Prog (Eff F) α) (Q : α → sProp 𝕄) : sProp 𝕄 :=
  wp frame (wpE (defs₀ (F := F)) 𝒱₀ (d : Thread nD τ) none) Set.univ p Q

variable (I : Inp F) (K : Dev nD × CellIx → ℕ)

/-! ## What all devices share -/

/-- Every cell's invariant, under the names `K`; every cell's round 0 reached; the levels. -/
def shared : sProp 𝕄 :=
  iprop((bigSep Finset.univ fun di : Dev nD × CellIx => cellInv ER (sched I) (K di) (cell di.1 di.2))
    ∗ (bigSep Finset.univ fun di : Dev nD × CellIx => reached ER (cell di.1 di.2) 0) ∗ levAts L lv)

instance shared_persistent : BI.Persistent (shared I K) := by unfold shared; infer_instance

theorem inv_of_all (di : Dev nD × CellIx) :
    (bigSep Finset.univ fun di : Dev nD × CellIx => (cellInv ER (sched I) (K di) (cell di.1 di.2) : sProp 𝕄))
      ⊢ cellInv ER (sched I) (K di) (cell di.1 di.2) := bigSep_elim (Finset.mem_univ di)
omit [FloatOps F] in
theorem reached_of_all (di : Dev nD × CellIx) :
    (bigSep Finset.univ fun di : Dev nD × CellIx => (reached ER (cell di.1 di.2) 0 : sProp 𝕄)) ⊢ reached ER (cell di.1 di.2) 0 :=
  bigSep_elim (Finset.mem_univ di)

theorem shared_inv (d : Dev nD) (i : CellIx) : shared I K ⊢ cellInv ER (sched I) (K (d, i)) (cell d i) := by
  unfold shared
  iintro ⟨H, -, -⟩
  iapply (inv_of_all I K (d, i)); iexact H
theorem shared_reached (d : Dev nD) (i : CellIx) : shared I K ⊢ reached ER (cell d i) 0 := by
  unfold shared
  iintro ⟨-, H, -⟩
  iapply (reached_of_all (F := F) (d, i)); iexact H
theorem shared_lev : shared I K ⊢ levAts L lv := by
  unfold shared
  iintro ⟨-, -, H⟩
  iexact H

/-! ## The states of a slab -/

section States

variable (d : Dev nD) (b : Bool) (l : Fin 3) (c : Fin 4)

/-- Not yet sent. -/
def pend : sProp 𝕄 :=
  iprop(dutyTok ER (cell (nb b d) (rcvIx b l c)) 0 false ∗ dstFree (nb b d) l c b ∗ dutyTok ER (cell d (sndIx b c)) l.val false
    ∗ atPos ER (cell d (rcvIx b l c)) 0 ∅ 0 ∗ cred (tallyAt (cell d (rcvIx b l c)) () (credit b)))
/-- The send slab, free for round `r`. -/
def idle (r : ℕ) : sProp 𝕄 :=
  iprop(atPos ER (cell d (sndIx b c)) r ∅ 0 ∗ reached ER (cell d (sndIx b c)) r ∗ srcFree d c b)
/-- Sent, and the neighbour's awaited. -/
def fly : sProp 𝕄 :=
  iprop(atPos ER (cell d (rcvIx b l c)) 0 ∅ 0 ∗ cred (tallyAt (cell d (rcvIx b l c)) () (credit b))
    ∗ atPos ER (cell d (sndIx b c)) l.val ∅ 0 ∗ cred (tallyAt (cell d (sndIx b c)) () (credit b)))
/-- Landed and read. -/
def fin : sProp 𝕄 := iprop(atPos ER (cell d (rcvIx b l c)) 1 ∅ 0 ∗ dstFree d l c b)

/-- What is owed while `k` transfers are still to be started. -/
def debt (k : ℕ) : sProp 𝕄 := iprop(∃ W, owes (d : Thread nD τ) (rem d k) W)

end States

omit [FloatOps F] in
theorem pendY_eq (d : Dev nD) (l : Fin 3) (c : Fin 4) : (pend d false l c : sProp 𝕄)
    = iprop(dutyTok ER (cell (yNb d) (rcvIx false l c)) 0 false
    ∗ (∃ f, (yrSl l c).view.loc (yNb d : Thread nD τ) ↦[(yrSl l c).view.set]{fullShare} f) ∗ dutyTok ER (cell d (sndIx false c)) l.val false
    ∗ atPos ER (cell d (rcvIx false l c)) 0 ∅ 0 ∗ cred (tallyAt (cell d (rcvIx false l c)) () (credit false))) := rfl
omit [FloatOps F] in
theorem idleY_eq (d : Dev nD) (c : Fin 4) (r : ℕ) : (idle d false c r : sProp 𝕄)
    = iprop(atPos ER (cell d (sndIx false c)) r ∅ 0 ∗ reached ER (cell d (sndIx false c)) r
      ∗ ∃ f, (ysSl c).view.loc (d : Thread nD τ) ↦[(ysSl c).view.set]{fullShare} f) := rfl

/-! ## Sending -/

omit [FloatOps F] in
theorem srcFreeY (d : Dev nD) (c : Fin 4) (f) :
    ((ysSl c).view.loc (d : Thread nD τ) ↦[(ysSl c).view.set]{fullShare} f : sProp 𝕄) ⊢ srcFree d c false := by
  unfold srcFree; iintro H; iexists f; iexact H

/-- A slab written with what the sender's send slab reads is landed. -/
theorem landedY (d : Dev nD) (l : Fin 3) (c : Fin 4) (fd : (yrSl l c).view.ty.Contents (Elt F)) (fs : (ysSl c).view.ty.Contents (Elt F)) :
    ((yrSl l c).view.loc (yNb d : Thread nD τ) ↦[(yrSl l c).view.set]{fullShare} ((yrSl l c).view.write (Elt F) fd
        ((ysSl c).view.read (Elt F) ((ysM.access (ysR c)).write (Elt F) fs (packY (I.P l.val c d)) Finset.univ)) Finset.univ) : sProp 𝕄)
      ⊢ landed I (yNb d) l c false := by
  unfold landed owns; iintro H; iexists ((yrSl l c).view.write (Elt F) fd
    ((ysSl c).view.read (Elt F) ((ysM.access (ysR c)).write (Elt F) fs (packY (I.P l.val c d)) Finset.univ)) Finset.univ); isplitr
  · ipureintro; exact (View.read_write_univ fd _).trans ((read_store_ys c fs (I.P l.val c d)).trans (by rw [yNb_yNb]))
  · iexact H

theorem sendY_run (d : Dev nD) (l : Fin 3) (c : Fin 4) (Q : PUnit → sProp 𝕄) :
    iprop(shared I K ∗ pend d false l c ∗ idle d false c l.val ∗ debt d (left false l c.val)
        ∗ ((fly d false l c ∗ debt d (left false l (c.val + 1))) -∗ Q ⟨⟩))
      ⊢ run d (sendY (yNb d) l c (packY (I.P l.val c d))) Q := by
  unfold run sendY
  simp only [Prog.lift, Prog.bind_op, Prog.bind_ret]
  rw [pendY_eq, idleY_eq]; unfold debt
  iintro ⟨#Hsh, ⟨HtR, ⟨%fd, Hdst⟩, HtS, HaR, HcR⟩, ⟨HaS, #HrS, ⟨%fs, Hsrc⟩⟩, ⟨%W, HO⟩, Hk⟩
  iapply (wp_load_rect 𝒱₀ (d : Thread nD τ) none Set.univ (m := ysM) (r := ysR c) (ys_access c)) $$ Hsrc; iintro Hsrc
  iapply (wp_store 𝒱₀ (d : Thread nD τ) none Set.univ (m := ysM) (r := ysR c) (Mk := Finset.univ) (ys_access c)) $$ Hsrc; iintro Hsrc
  iapply (Rounds.wp_send_pointsTo 𝒱₀ ER (sched I) (d : Thread nD τ) none (κ₁ := K (d, sndIx false c)) (κ₂ := K (yNb d, rcvIx false l c))
      (r₁ := l.val) (r₂ := 0) (d₁ := false) (d₂ := false) (fd := fd)
      (by exact (snd_duties I d false l c).symm ▸ Finset.mem_singleton_self _) (by exact (rcv_duties I (yNb d) false l c).symm ▸ Finset.mem_singleton_self _)
      () () (credit false) rfl (sched_amount I d (sndIx false c) l.val false) (sched_amount I (yNb d) (rcvIx false l c) 0 false)
      (rem d (left false l (c.val + 1))) (rem_left d false l c) (W := W)
      ((srcFreeY d c _).trans (Entails.of_eq (sched_payload I d (sndIx false c) l.val false).symm))
      ((landedY I d l c fd fs).trans (Entails.of_eq (sched_payload I (yNb d) (rcvIx false l c) 0 false).symm))) $$ [Hsrc Hdst HO HtS HtR]
  · isplitr; · iapply (shared_inv I K d (sndIx false c)); iexact Hsh
    isplitr; · iapply (shared_inv I K (yNb d) (rcvIx false l c)); iexact Hsh
    isplitl [Hsrc]; · iexact Hsrc
    isplitl [Hdst]; · iexact Hdst
    isplitl [HO]; · iexact HO
    isplitl [HtS]; · iexact HtS
    isplitr; · iexact HrS
    isplitl [HtR]; · iexact HtR
    iapply (shared_reached I K (yNb d) (rcvIx false l c)); iexact Hsh
  iintro ⟨HcS, HO⟩
  rw [wp_ret]; imodintro
  iapply Hk
  unfold fly
  isplitr [HO]
  · isplitl [HaR]; · iexact HaR
    isplitl [HcR]; · iexact HcR
    isplitl [HaS]; · iexact HaS
    iexact HcS
  · iexists W; iexact HO

/-! ## Receiving -/

/-- Waits for a landing and for the own transfer are allowed while the transfers still owed are of later levels. -/
theorem recvY_run (d : Dev nD) (l : Fin 3) (c : Fin 4) (k : ℕ) (hk : k ≤ 24) (hl : 2 * l.val < (24 - k) / 4)
    (Q : Vec F S1x1x128x512 .bf16 → sProp 𝕄) :
    iprop(shared I K ∗ fly d false l c ∗ debt d k
        ∗ (∀ v, ⌜shapeCast S128x512 v shapeCasts_S1x1x128x512_S128x512 = sentY (I.P l.val c (yNb d))⌝ -∗
            (fin d false l c ∗ idle d false c (l.val + 1) ∗ debt d k) -∗ Q v))
      ⊢ run d (recvY l c) Q := by
  unfold run recvY
  simp only [Prog.lift, Prog.bind_op, Prog.bind_ret]
  unfold fly debt
  iintro ⟨#Hsh, ⟨HaR, HcR, HaS, HcS⟩, ⟨%W, HO⟩, Hk⟩
  ihave #Hlev := (shared_lev I K) $$ Hsh
  iapply (Rounds.wp_wait_rest_token 𝒱₀ ER (sched I) (d : Thread nD τ) none (κ := K (d, rcvIx false l c))
      (wpE_waitDma2_eq 𝒱₀ (d : Thread nD τ) none Set.univ) (Set.mem_univ _) () (O := rem d k) (W := W) (R := 0) (m := 0) (T := ∅)
      (by rw [Nat.zero_add]; exact (rcv_expect I d false l c).symm)) $$ [HcR HO HaR]
  · isplitr; · iapply (shared_inv I K d (rcvIx false l c)); iexact Hsh
    isplitl [HcR]; · iexact HcR
    isplitl [HO]; · iexact HO
    isplitr; · iapply (mayWait_rem d _ k (2 + 2 * l.val) hk (lv_rcv d false l c).le (by omega)); iexact Hlev
    iexact HaR
  iintro ⟨HO, HaR, -, Hpay⟩
  ihave Hland := (show bigSep ((sched I).duties ((d : Thread nD τ), SemLoc.dma (yrSem l c)) 0 \ ∅) (fun e => (sched I).payload ((d : Thread nD τ), SemLoc.dma (yrSem l c)) 0 e)
    ⊢ landed I d l c false from Entails.of_eq (rcv_rest I d false l c)) $$ Hpay
  iapply (Rounds.wp_wait_rest_token 𝒱₀ ER (sched I) (d : Thread nD τ) none (κ := K (d, sndIx false c))
      (wpE_waitDma2_eq 𝒱₀ (d : Thread nD τ) none Set.univ) (Set.mem_univ _) () (O := rem d k)
      (W := insert (SemLoc.dma (yrSem l c), ()) W) (R := l.val) (m := 0) (T := ∅)
      (by rw [Nat.zero_add]; exact (snd_expect I d false l c).symm)) $$ [HcS HO HaS]
  · isplitr; · iapply (shared_inv I K d (sndIx false c)); iexact Hsh
    isplitl [HcS]; · iexact HcS
    isplitl [HO]; · iexact HO
    isplitr; · iapply (mayWait_rem d _ k 0 hk (lv_snd d false c).le (by omega)); iexact Hlev
    iexact HaS
  iintro ⟨HO, HaS, #HrS, Hpay⟩
  ihave Hsrc := (show bigSep ((sched I).duties ((d : Thread nD τ), SemLoc.dma (ysSem c)) l.val \ ∅) (fun e => (sched I).payload ((d : Thread nD τ), SemLoc.dma (ysSem c)) l.val e)
    ⊢ srcFree d c false from Entails.of_eq (snd_rest I d false l c)) $$ Hpay
  unfold landed owns
  icases Hland with ⟨%f, %hf, Hland⟩
  iapply (wp_load_rect 𝒱₀ (d : Thread nD τ) none Set.univ (m := yrM) (r := yrR l c) (yr_access l c)) $$ Hland; iintro Hland
  rw [wp_ret]; imodintro
  iapply Hk
  · ipureintro; exact (read_yr l c f).trans hf
  unfold fin idle
  isplitl [HaR Hland]
  · isplitl [HaR]; · iexact HaR
    unfold dstFree; iexists f; iexact Hland
  isplitl [HaS Hsrc]
  · isplitl [HaS]; · iexact HaS
    isplitr; · iexact HrS
    iexact Hsrc
  · iexists (insert (SemLoc.dma (ysSem c), ()) (insert (SemLoc.dma (yrSem l c), ()) W)); iexact HO

omit [FloatOps F] in
theorem pendX_eq (d : Dev nD) (l : Fin 3) (c : Fin 4) : (pend d true l c : sProp 𝕄)
    = iprop(dutyTok ER (cell (xNb d) (rcvIx true l c)) 0 false
    ∗ (∃ f, (xrSl l c).view.loc (xNb d : Thread nD τ) ↦[(xrSl l c).view.set]{fullShare} f) ∗ dutyTok ER (cell d (sndIx true c)) l.val false
    ∗ atPos ER (cell d (rcvIx true l c)) 0 ∅ 0 ∗ cred (tallyAt (cell d (rcvIx true l c)) () (credit true))) := rfl
omit [FloatOps F] in
theorem idleX_eq (d : Dev nD) (c : Fin 4) (r : ℕ) : (idle d true c r : sProp 𝕄)
    = iprop(atPos ER (cell d (sndIx true c)) r ∅ 0 ∗ reached ER (cell d (sndIx true c)) r
      ∗ ∃ f, (xsSl c).view.loc (d : Thread nD τ) ↦[(xsSl c).view.set]{fullShare} f) := rfl

/-! ## The same along `x` -/

omit [FloatOps F] in
theorem srcFreeX (d : Dev nD) (c : Fin 4) (f) :
    ((xsSl c).view.loc (d : Thread nD τ) ↦[(xsSl c).view.set]{fullShare} f : sProp 𝕄) ⊢ srcFree d c true := by
  unfold srcFree; iintro H; iexists f; iexact H

/-- A slab written with what the sender's send slab reads is landed. -/
theorem landedX (d : Dev nD) (l : Fin 3) (c : Fin 4) (fd : (xrSl l c).view.ty.Contents (Elt F)) (fs : (xsSl c).view.ty.Contents (Elt F)) :
    ((xrSl l c).view.loc (xNb d : Thread nD τ) ↦[(xrSl l c).view.set]{fullShare} ((xrSl l c).view.write (Elt F) fd
        ((xsSl c).view.read (Elt F) ((xsM.access (xsR c)).write (Elt F) fs (packX (I.Q l.val c d)) Finset.univ)) Finset.univ) : sProp 𝕄)
      ⊢ landed I (xNb d) l c true := by
  unfold landed owns; iintro H; iexists ((xrSl l c).view.write (Elt F) fd
    ((xsSl c).view.read (Elt F) ((xsM.access (xsR c)).write (Elt F) fs (packX (I.Q l.val c d)) Finset.univ)) Finset.univ); isplitr
  · ipureintro; exact (View.read_write_univ fd _).trans ((read_store_xs c fs (I.Q l.val c d)).trans (by rw [xNb_xNb]))
  · iexact H

theorem sendX_run (d : Dev nD) (l : Fin 3) (c : Fin 4) (Q : PUnit → sProp 𝕄) :
    iprop(shared I K ∗ pend d true l c ∗ idle d true c l.val ∗ debt d (left true l c.val)
        ∗ ((fly d true l c ∗ debt d (left true l (c.val + 1))) -∗ Q ⟨⟩))
      ⊢ run d (sendX (xNb d) l c (packX (I.Q l.val c d))) Q := by
  unfold run sendX
  simp only [Prog.lift, Prog.bind_op, Prog.bind_ret]
  rw [pendX_eq, idleX_eq]; unfold debt
  iintro ⟨#Hsh, ⟨HtR, ⟨%fd, Hdst⟩, HtS, HaR, HcR⟩, ⟨HaS, #HrS, ⟨%fs, Hsrc⟩⟩, ⟨%W, HO⟩, Hk⟩
  iapply (wp_load_rect 𝒱₀ (d : Thread nD τ) none Set.univ (m := xsM) (r := xsR c) (xs_access c)) $$ Hsrc; iintro Hsrc
  iapply (wp_store 𝒱₀ (d : Thread nD τ) none Set.univ (m := xsM) (r := xsR c) (Mk := Finset.univ) (xs_access c)) $$ Hsrc; iintro Hsrc
  iapply (Rounds.wp_send_pointsTo 𝒱₀ ER (sched I) (d : Thread nD τ) none (κ₁ := K (d, sndIx true c)) (κ₂ := K (xNb d, rcvIx true l c))
      (r₁ := l.val) (r₂ := 0) (d₁ := false) (d₂ := false) (fd := fd)
      (by exact (snd_duties I d true l c).symm ▸ Finset.mem_singleton_self _) (by exact (rcv_duties I (xNb d) true l c).symm ▸ Finset.mem_singleton_self _)
      () () (credit true) rfl (sched_amount I d (sndIx true c) l.val false) (sched_amount I (xNb d) (rcvIx true l c) 0 false)
      (rem d (left true l (c.val + 1))) (rem_left d true l c) (W := W)
      ((srcFreeX d c _).trans (Entails.of_eq (sched_payload I d (sndIx true c) l.val false).symm))
      ((landedX I d l c fd fs).trans (Entails.of_eq (sched_payload I (xNb d) (rcvIx true l c) 0 false).symm))) $$ [Hsrc Hdst HO HtS HtR]
  · isplitr; · iapply (shared_inv I K d (sndIx true c)); iexact Hsh
    isplitr; · iapply (shared_inv I K (xNb d) (rcvIx true l c)); iexact Hsh
    isplitl [Hsrc]; · iexact Hsrc
    isplitl [Hdst]; · iexact Hdst
    isplitl [HO]; · iexact HO
    isplitl [HtS]; · iexact HtS
    isplitr; · iexact HrS
    isplitl [HtR]; · iexact HtR
    iapply (shared_reached I K (xNb d) (rcvIx true l c)); iexact Hsh
  iintro ⟨HcS, HO⟩
  rw [wp_ret]; imodintro
  iapply Hk
  unfold fly
  isplitr [HO]
  · isplitl [HaR]; · iexact HaR
    isplitl [HcR]; · iexact HcR
    isplitl [HaS]; · iexact HaS
    iexact HcS
  · iexists W; iexact HO

/-- Waits for a landing and for the own transfer are allowed while the transfers still owed are of later levels. -/
theorem recvX_run (d : Dev nD) (l : Fin 3) (c : Fin 4) (k : ℕ) (hk : k ≤ 24) (hl : 2 * l.val + 1 < (24 - k) / 4)
    (Q : Vec F S1x1x128x256 .bf16 → sProp 𝕄) :
    iprop(shared I K ∗ fly d true l c ∗ debt d k
        ∗ (∀ v, ⌜shapeCast S128x256 v shapeCasts_S1x1x128x256_S128x256 = sentX (I.Q l.val c (xNb d))⌝ -∗
            (fin d true l c ∗ idle d true c (l.val + 1) ∗ debt d k) -∗ Q v))
      ⊢ run d (recvX l c) Q := by
  unfold run recvX
  simp only [Prog.lift, Prog.bind_op, Prog.bind_ret]
  unfold fly debt
  iintro ⟨#Hsh, ⟨HaR, HcR, HaS, HcS⟩, ⟨%W, HO⟩, Hk⟩
  ihave #Hlev := (shared_lev I K) $$ Hsh
  iapply (Rounds.wp_wait_rest_token 𝒱₀ ER (sched I) (d : Thread nD τ) none (κ := K (d, rcvIx true l c))
      (wpE_waitDma2_eq 𝒱₀ (d : Thread nD τ) none Set.univ) (Set.mem_univ _) () (O := rem d k) (W := W) (R := 0) (m := 0) (T := ∅)
      (by rw [Nat.zero_add]; exact (rcv_expect I d true l c).symm)) $$ [HcR HO HaR]
  · isplitr; · iapply (shared_inv I K d (rcvIx true l c)); iexact Hsh
    isplitl [HcR]; · iexact HcR
    isplitl [HO]; · iexact HO
    isplitr; · iapply (mayWait_rem d _ k (2 + 2 * l.val + 1) hk (lv_rcv d true l c).le (by omega)); iexact Hlev
    iexact HaR
  iintro ⟨HO, HaR, -, Hpay⟩
  ihave Hland := (show bigSep ((sched I).duties ((d : Thread nD τ), SemLoc.dma (xrSem l c)) 0 \ ∅) (fun e => (sched I).payload ((d : Thread nD τ), SemLoc.dma (xrSem l c)) 0 e)
    ⊢ landed I d l c true from Entails.of_eq (rcv_rest I d true l c)) $$ Hpay
  iapply (Rounds.wp_wait_rest_token 𝒱₀ ER (sched I) (d : Thread nD τ) none (κ := K (d, sndIx true c))
      (wpE_waitDma2_eq 𝒱₀ (d : Thread nD τ) none Set.univ) (Set.mem_univ _) () (O := rem d k)
      (W := insert (SemLoc.dma (xrSem l c), ()) W) (R := l.val) (m := 0) (T := ∅)
      (by rw [Nat.zero_add]; exact (snd_expect I d true l c).symm)) $$ [HcS HO HaS]
  · isplitr; · iapply (shared_inv I K d (sndIx true c)); iexact Hsh
    isplitl [HcS]; · iexact HcS
    isplitl [HO]; · iexact HO
    isplitr; · iapply (mayWait_rem d _ k 0 hk (lv_snd d true c).le (by omega)); iexact Hlev
    iexact HaS
  iintro ⟨HO, HaS, #HrS, Hpay⟩
  ihave Hsrc := (show bigSep ((sched I).duties ((d : Thread nD τ), SemLoc.dma (xsSem c)) l.val \ ∅) (fun e => (sched I).payload ((d : Thread nD τ), SemLoc.dma (xsSem c)) l.val e)
    ⊢ srcFree d c true from Entails.of_eq (snd_rest I d true l c)) $$ Hpay
  unfold landed owns
  icases Hland with ⟨%f, %hf, Hland⟩
  iapply (wp_load_rect 𝒱₀ (d : Thread nD τ) none Set.univ (m := xrM) (r := xrR l c) (xr_access l c)) $$ Hland; iintro Hland
  rw [wp_ret]; imodintro
  iapply Hk
  · ipureintro; exact (read_xr l c f).trans hf
  unfold fin idle
  isplitl [HaR Hland]
  · isplitl [HaR]; · iexact HaR
    unfold dstFree; iexists f; iexact Hland
  isplitl [HaS Hsrc]
  · isplitl [HaS]; · iexact HaS
    isplitr; · iexact HrS
    iexact Hsrc
  · iexists (insert (SemLoc.dma (xsSem c), ()) (insert (SemLoc.dma (xrSem l c), ()) W)); iexact HO

end Cert.KernelIdealRun

end
-- ==== Proof.KernelIdeal.Halves.lean ====
/-
A chunk's step, the four chunks of a half layer, and the half layers.

A half layer is one program for the four chunks in turn; `four_run` says once what that does to a family of
per-chunk resources, and each half layer is that with its own step.
-/
module

public import proofs.«01_k».proof.Proof.KernelIdeal.Exchange
public import Idealize.ShloMosaic.Lib.ViewIndex

@[expose] public section

set_option maxRecDepth 16384
set_option synthInstance.maxSize 1024

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists)

variable {F : FTy → Type} [FloatOps F]

local notation "𝕄" => MT nD τ sig Unit (Elt F) ℕ UU ℕ

variable (I : Inp F) (K : Dev nD × CellIx → ℕ) (d : Dev nD)

/-! ## The staged blocks -/

def xPts : sProp 𝕄 := ((d : Thread nD τ).loc cc0_stg0_0) ↦{fullShare} I.x d
/-- Layer `l`'s first and second weight block. -/
def wiPts : Fin 3 → sProp 𝕄
  | 0 => ((d : Thread nD τ).loc cc0_stg1_0) ↦{fullShare} I.wi 0 d
  | 1 => ((d : Thread nD τ).loc cc0_stg3_0) ↦{fullShare} I.wi 1 d
  | 2 => ((d : Thread nD τ).loc cc0_stg5_0) ↦{fullShare} I.wi 2 d
def woPts : Fin 3 → sProp 𝕄
  | 0 => ((d : Thread nD τ).loc cc0_stg2_0) ↦{fullShare} I.wo 0 d
  | 1 => ((d : Thread nD τ).loc cc0_stg4_0) ↦{fullShare} I.wo 1 d
  | 2 => ((d : Thread nD τ).loc cc0_stg6_0) ↦{fullShare} I.wo 2 d

/-- The result on device `d`: chunk `c`'s rows are `I.out c d`. -/
def Inp.outAll (d : Dev nD) : Vec F S512x256 .f32 := fun i =>
  I.out (chunkOf i) d (Fin.cons (⟨(i 0).val % 128, Nat.mod_lt _ (by decide)⟩ : Fin 128) (Fin.cons (⟨(i 1).val, (i 1).isLt⟩ : Fin 256) finZeroElim))

/-- A chunk's rows of the result's staging buffer: at some contents, and at the result's. -/
def rowFree (c : Fin 4) : sProp 𝕄 := iprop(∃ f, (oM.access (rowR c)).loc (d : Thread nD τ) ↦[(oM.access (rowR c)).set]{fullShare} f)
def rowDone (c : Fin 4) : sProp 𝕄 := (oM.access (rowR c)).loc (d : Thread nD τ) ↦[(oM.access (rowR c)).set]{fullShare} I.outAll d

theorem row_disjoint : ∀ c c' : Fin 4, c ≠ c' → Disjoint (oM.access (rowR c)).set (oM.access (rowR c')).set :=
  keyed_disjoint (s := S512x256) (fun c : Fin 4 => (oM.access (rowR c)).set) _ row_key
theorem row_cover : Finset.biUnion (β := S512x256.Idx) Finset.univ (fun c : Fin 4 => (oM.access (rowR c)).set) = Finset.univ :=
  keyed_cover (s := S512x256) (fun c : Fin 4 => (oM.access (rowR c)).set) _ row_key

omit [FloatOps F] in
theorem out_split : (iprop(∃ f : Buf (Elt F) ((d : Thread nD τ).loc cc0_stg7_0), ((d : Thread nD τ).loc cc0_stg7_0) ↦{fullShare} f) : sProp 𝕄)
    ⊢ bigSep Finset.univ (rowFree d) :=
  split_free (ℓ := (d : Thread nD τ).loc cc0_stg7_0) (fun c : Fin 4 => (oM.access (rowR c)).set) row_disjoint row_cover
theorem out_join : bigSep Finset.univ (rowDone I d) ⊢ (((d : Thread nD τ).loc cc0_stg7_0) ↦{fullShare} I.outAll d : sProp 𝕄) :=
  Entails.of_eq (pointsTo_blocks (ℓ := (d : Thread nD τ).loc cc0_stg7_0) (fun c : Fin 4 => (oM.access (rowR c)).set) row_disjoint row_cover _).symm

/-- The rows of chunk `c`, written with the chunk's result, are the result's. -/
theorem row_written (c : Fin 4) (f : (oM.access (rowR c)).ty.Contents (Elt F)) :
    ((oM.access (rowR c)).loc (d : Thread nD τ) ↦[(oM.access (rowR c)).set]{fullShare} ((oM.access (rowR c)).write (Elt F) f (I.out c d) Finset.univ) : sProp 𝕄)
      ⊢ rowDone I d c := by
  unfold rowDone
  refine Entails.of_eq (pointsTo_congr fun i hi => ?_)
  obtain ⟨x, rfl⟩ := View.exists_of_mem_set_slice hi
  refine (View.write_emb_of_mem (v := oM.access (rowR c)) f _ (Finset.mem_univ x)).trans ?_
  have hc : chunkOf ((oM.access (rowR c)).emb x) = c := (row_key c _).mp ((oM.access (rowR c)).emb_mem_set x)
  have h0 : (((oM.access (rowR c)).emb x) 0).val = 128 * c.val + (x 0).val := by
    show 128 * c.val + 1 * (x 0).val = _; omega
  have h1 : (((oM.access (rowR c)).emb x) 1).val = (x 1).val := by
    show 0 + 1 * (x 1).val = _; omega
  show I.out c d x = I.outAll d ((oM.access (rowR c)).emb x)
  unfold Inp.outAll
  rw [hc]
  refine congrArg (I.out c d) (funext fun a => ?_)
  have hx := (x 0).isLt
  match a with
  | ⟨0, _⟩ => exact Fin.ext (by show (x 0).val = (((oM.access (rowR c)).emb x) 0).val % 128; rw [h0]; have : (x 0).val < 128 := hx; omega)
  | ⟨1, _⟩ => exact Fin.ext h1.symm

/-! ## Loads of the staged blocks -/

theorem hz2 : (![0, 0] : Fin 2 → Nat) = fun _ => 0 := funext fun a => by fin_cases a <;> rfl

/-- A load of a buffer held whole. -/
theorem load_run {cs : CoreSpace} {s : Shape} {e : EltTy} (m : Memref sig .tc cs s e) (r : LoadRect s) (hl : m.view.LoadsAt r)
    (f : Buf (Elt F) (m.view.loc (d : Thread nD τ))) (v : r.shape.Idx → Elt F e) (h : m.view.readAt (Elt F) r f = v)
    (Q : (r.shape.Idx → Elt F e) → sProp 𝕄) :
    iprop((m.view.loc (d : Thread nD τ) ↦{fullShare} f) ∗ ((m.view.loc (d : Thread nD τ) ↦{fullShare} f) -∗ Q v))
      ⊢ run d (Prog.lift (.load m r hl)) Q := by
  subst h
  iintro ⟨H, Hk⟩
  iapply (wp_load 𝒱₀ (d : Thread nD τ) none Set.univ (m := m) (r := r) (Finset.subset_univ _)) $$ H
  iintro H
  rw [wp_ret]; imodintro
  iapply Hk; iexact H

theorem loadWin_run (l : Fin 3) (Q : Vec F S256x512 .bf16 → sProp 𝕄) :
    iprop(wiPts I d l ∗ (wiPts I d l -∗ Q (I.wi l.val d))) ⊢ run d (loadWin l) Q :=
  match l with
  | 0 => load_run d (winM 0) winR.toLoadRect _ (I.wi 0 d) _ (Memref.readAt_unit_zero (Elt F) cc0_stg1_0 hz2 _ _) Q
  | 1 => load_run d (winM 1) winR.toLoadRect _ (I.wi 1 d) _ (Memref.readAt_unit_zero (Elt F) cc0_stg3_0 hz2 _ _) Q
  | 2 => load_run d (winM 2) winR.toLoadRect _ (I.wi 2 d) _ (Memref.readAt_unit_zero (Elt F) cc0_stg5_0 hz2 _ _) Q

theorem loadWout_run (l : Fin 3) (Q : Vec F S512x256 .bf16 → sProp 𝕄) :
    iprop(woPts I d l ∗ (woPts I d l -∗ Q (I.wo l.val d))) ⊢ run d (loadWout l) Q :=
  match l with
  | 0 => load_run d (woutM 0) woutR.toLoadRect _ (I.wo 0 d) _ (Memref.readAt_unit_zero (Elt F) cc0_stg2_0 hz2 _ _) Q
  | 1 => load_run d (woutM 1) woutR.toLoadRect _ (I.wo 1 d) _ (Memref.readAt_unit_zero (Elt F) cc0_stg4_0 hz2 _ _) Q
  | 2 => load_run d (woutM 2) woutR.toLoadRect _ (I.wo 2 d) _ (Memref.readAt_unit_zero (Elt F) cc0_stg6_0 hz2 _ _) Q

/-! ## One chunk's steps -/

theorem stepP0_run (c : Fin 4) (Q : FVec F S128x512 .f32 → sProp 𝕄) :
    iprop(shared I K ∗ (pend d false 0 c ∗ idle d false c 0) ∗ (xPts I d ∗ debt d (left false 0 c.val))
        ∗ ((fly d false 0 c ∗ (xPts I d ∗ debt d (left false 0 (c.val + 1)))) -∗ Q (I.P 0 c d)))
      ⊢ run d (stepP0 (yNb d) (I.wi 0 d) c) Q := by
  unfold run stepP0
  simp only [Prog.lift, Prog.bind_op, Prog.bind_ret]
  iintro ⟨#Hsh, ⟨Hp, Hi⟩, ⟨Hx, HO⟩, Hk⟩
  unfold xPts
  iapply (wp_load_rect 𝒱₀ (d : Thread nD τ) none Set.univ (m := xM) (r := rowR c) (Finset.subset_univ _)) $$ Hx; iintro Hx
  rw [show partP0 (castWin (I.wi 0 d)) ((xM.access (rowR c)).read (Elt F) (I.x d)) = I.P 0 c d from rfl, wp_bind]
  iapply (sendY_run I K d 0 c)
  isplitr; · iexact Hsh
  isplitl [Hp]; · iexact Hp
  isplitl [Hi]; · iexact Hi
  isplitl [HO]; · iexact HO
  iintro ⟨Hf, HO⟩
  rw [Prog.pure_eq_ret, wp_ret]; imodintro
  iapply Hk
  isplitl [Hf]; · iexact Hf
  isplitl [Hx]; · iexact Hx
  iexact HO

theorem stepQ_run (l : Fin 3) (c : Fin 4) (Q : FVec F S128x256 .f32 → sProp 𝕄) :
    iprop(shared I K ∗ (fly d false l c ∗ pend d true l c ∗ idle d true c l.val) ∗ debt d (left true l c.val)
        ∗ (((fin d false l c ∗ idle d false c (l.val + 1) ∗ fly d true l c) ∗ debt d (left true l (c.val + 1))) -∗ Q (I.Q l.val c d)))
      ⊢ run d (stepQ (xNb d) l (I.wo l.val d) c (I.P l.val c d)) Q := by
  unfold run stepQ
  rw [wp_bind]
  iintro ⟨#Hsh, ⟨Hf, Hp, Hi⟩, HO, Hk⟩
  iapply (recvY_run I K d l c (left true l c.val) (by unfold left; omega) (by unfold left; simp only [Bool.toNat_true]; omega))
  isplitr; · iexact Hsh
  isplitl [Hf]; · iexact Hf
  isplitl [HO]; · iexact HO
  iintro %v %hv ⟨Hd, Hi', HO⟩
  rw [partQ_eq _ _ v _ hv, ← I.Q_eq, wp_bind]
  iapply (sendX_run I K d l c)
  isplitr; · iexact Hsh
  isplitl [Hp]; · iexact Hp
  isplitl [Hi]; · iexact Hi
  isplitl [HO]; · iexact HO
  iintro ⟨Hf, HO⟩
  rw [Prog.pure_eq_ret, wp_ret]; imodintro
  iapply Hk
  isplitr [HO]
  · isplitl [Hd]; · iexact Hd
    isplitl [Hi']; · iexact Hi'
    iexact Hf
  iexact HO

theorem stepP_run (l l' : Fin 3) (hl : l'.val = l.val + 1) (c : Fin 4) (Q : FVec F S128x512 .f32 → sProp 𝕄) :
    iprop(shared I K ∗ (fly d true l c ∗ pend d false l' c ∗ idle d false c l'.val) ∗ debt d (left false l' c.val)
        ∗ (((fin d true l c ∗ idle d true c (l.val + 1) ∗ fly d false l' c) ∗ debt d (left false l' (c.val + 1))) -∗ Q (I.P l'.val c d)))
      ⊢ run d (stepP (yNb d) l l' (I.wi l'.val d) c (I.Q l.val c d)) Q := by
  unfold run stepP
  rw [wp_bind]
  iintro ⟨#Hsh, ⟨Hf, Hp, Hi⟩, HO, Hk⟩
  iapply (recvX_run I K d l c (left false l' c.val) (by unfold left; omega) (by unfold left; simp only [Bool.toNat_false]; omega))
  isplitr; · iexact Hsh
  isplitl [Hf]; · iexact Hf
  isplitl [HO]; · iexact HO
  iintro %v %hv ⟨Hd, Hi', HO⟩
  rw [partP_eq _ _ v _ hv, show mulIn (I.wi l'.val d) (truncf .bf16 (sumX (I.Q l.val c d) (sentX (I.Q l.val c (xNb d)))) bitsLt_bf16_f32) = I.P l'.val c d by
    rw [hl]; exact (I.P_succ l.val c d).symm, wp_bind]
  iapply (sendY_run I K d l' c)
  isplitr; · iexact Hsh
  isplitl [Hp]; · iexact Hp
  isplitl [Hi]; · iexact Hi
  isplitl [HO]; · iexact HO
  iintro ⟨Hf, HO⟩
  rw [Prog.pure_eq_ret, wp_ret]; imodintro
  iapply Hk
  isplitr [HO]
  · isplitl [Hd]; · iexact Hd
    isplitl [Hi']; · iexact Hi'
    iexact Hf
  iexact HO

theorem stepOut_run (c : Fin 4) (Q : PUnit → sProp 𝕄) :
    iprop(shared I K ∗ (fly d true 2 c ∗ rowFree d c) ∗ debt d 0
        ∗ (((fin d true 2 c ∗ idle d true c 3 ∗ rowDone I d c) ∗ debt d 0) -∗ Q ⟨⟩))
      ⊢ run d (stepOut c (I.Q 2 c d)) Q := by
  unfold run stepOut
  rw [wp_bind]
  iintro ⟨#Hsh, ⟨Hf, Hr⟩, HO, Hk⟩
  iapply (recvX_run I K d 2 c 0 (by omega) (by decide))
  isplitr; · iexact Hsh
  isplitl [Hf]; · iexact Hf
  isplitl [HO]; · iexact HO
  iintro %v %hv ⟨Hd, Hi, HO⟩
  rw [outRows_eq _ v _ hv]
  simp only [Prog.lift, Prog.bind_op, Prog.bind_ret]
  unfold rowFree
  icases Hr with ⟨%f, Hr⟩
  iapply (wp_load_rect 𝒱₀ (d : Thread nD τ) none Set.univ (m := oM) (r := rowR c) (Finset.Subset.refl _)) $$ Hr; iintro Hr
  iapply (wp_store 𝒱₀ (d : Thread nD τ) none Set.univ (m := oM) (r := rowR c) (Mk := Finset.univ) (S := (oM.access (rowR c)).set) (f := f) (Finset.Subset.refl _)) $$ Hr; iintro Hr
  rw [wp_ret]; imodintro
  iapply Hk
  isplitr [HO]
  · isplitl [Hd]; · iexact Hd
    isplitl [Hi]; · iexact Hi
    iapply (row_written I d c f); iexact Hr
  iexact HO

/-! ## The four chunks of a half layer -/

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A step that turns chunk `c`'s resources `A c` into `B c` and a running resource `D c` into `D (c + 1)` does so for the
    four chunks in turn. -/
theorem four_run {α : Type} (f : Fin 4 → Prog (Eff F) α) (v : Fin 4 → α) (R : sProp 𝕄) [BI.Persistent R] (A B : Fin 4 → sProp 𝕄) (D : ℕ → sProp 𝕄)
    (h : ∀ (c : Fin 4) (Q : α → sProp 𝕄), iprop(R ∗ A c ∗ D c.val ∗ ((B c ∗ D (c.val + 1)) -∗ Q (v c))) ⊢ run d (f c) Q)
    (Q : (Fin 4 → α) → sProp 𝕄) :
    iprop(R ∗ bigSep Finset.univ A ∗ D 0 ∗ ((bigSep Finset.univ B ∗ D 4) -∗ Q v)) ⊢ run d (four f) Q := by
  have h' : ∀ (c : Fin 4) (n : ℕ), c.val = n → ∀ Q : α → sProp 𝕄, iprop(R ∗ A c ∗ D n ∗ ((B c ∗ D (n + 1)) -∗ Q (v c))) ⊢ run d (f c) Q :=
    fun c n hn => hn ▸ h c
  unfold run four
  rw [bigSep_fin4, bigSep_fin4]
  iintro ⟨#HR, ⟨A0, A1, A2, A3⟩, HD, Hk⟩
  rw [wp_bind]
  iapply (h' 0 0 rfl)
  isplitr; · iexact HR
  isplitl [A0]; · iexact A0
  isplitl [HD]; · iexact HD
  iintro ⟨B0, HD⟩
  rw [wp_bind]
  iapply (h' 1 1 rfl)
  isplitr; · iexact HR
  isplitl [A1]; · iexact A1
  isplitl [HD]; · iexact HD
  iintro ⟨B1, HD⟩
  rw [wp_bind]
  iapply (h' 2 2 rfl)
  isplitr; · iexact HR
  isplitl [A2]; · iexact A2
  isplitl [HD]; · iexact HD
  iintro ⟨B2, HD⟩
  rw [wp_bind]
  iapply (h' 3 3 rfl)
  isplitr; · iexact HR
  isplitl [A3]; · iexact A3
  isplitl [HD]; · iexact HD
  iintro ⟨B3, HD⟩
  rw [Prog.pure_eq_ret, wp_ret, show (![v 0, v 1, v 2, v 3] : Fin 4 → α) = v from funext fun c => by fin_cases c <;> rfl]; imodintro
  iapply Hk
  isplitr [HD]
  · isplitl [B0]; · iexact B0
    isplitl [B1]; · iexact B1
    isplitl [B2]; · iexact B2
    iexact B3
  iexact HD

/-! ## The half layers -/

omit [FloatOps F] in
theorem bigSep_three (A B C : Fin 4 → sProp 𝕄) :
    bigSep Finset.univ (fun c => iprop(A c ∗ B c ∗ C c)) = iprop(bigSep Finset.univ A ∗ bigSep Finset.univ B ∗ bigSep Finset.univ C) := by
  rw [bigSep_sep', bigSep_sep']

theorem halfP0_run (Q : (Fin 4 → FVec F S128x512 .f32) → sProp 𝕄) :
    iprop(shared I K ∗ wiPts I d 0 ∗ bigSep Finset.univ (fun c => iprop(pend d false 0 c ∗ idle d false c 0)) ∗ (xPts I d ∗ debt d (left false 0 0))
        ∗ ((wiPts I d 0 ∗ bigSep Finset.univ (fun c => fly d false 0 c) ∗ (xPts I d ∗ debt d (left false 0 4))) -∗ Q (fun c => I.P 0 c d)))
      ⊢ run d (halfP0 (yNb d)) Q := by
  unfold halfP0 run
  rw [wp_bind]
  iintro ⟨#Hsh, Hw, HA, HD, Hk⟩
  iapply (loadWin_run I d 0)
  isplitl [Hw]; · iexact Hw
  iintro Hw
  iapply (four_run d (fun c => stepP0 (yNb d) (I.wi 0 d) c) (fun c => I.P 0 c d) (shared I K) (fun c => iprop(pend d false 0 c ∗ idle d false c 0))
    (fun c => fly d false 0 c) (fun n => iprop(xPts I d ∗ debt d (left false 0 n))) (fun c Q => stepP0_run I K d c Q))
  isplitr; · iexact Hsh
  isplitl [HA]; · iexact HA
  isplitl [HD]; · iexact HD
  iintro ⟨HB, HD⟩
  iapply Hk
  isplitl [Hw]; · iexact Hw
  isplitl [HB]; · iexact HB
  iexact HD

theorem halfQ_run (l : Fin 3) (Q : (Fin 4 → FVec F S128x256 .f32) → sProp 𝕄) :
    iprop(shared I K ∗ woPts I d l ∗ bigSep Finset.univ (fun c => iprop(fly d false l c ∗ pend d true l c ∗ idle d true c l.val)) ∗ debt d (left true l 0)
        ∗ ((woPts I d l ∗ bigSep Finset.univ (fun c => iprop(fin d false l c ∗ idle d false c (l.val + 1) ∗ fly d true l c)) ∗ debt d (left true l 4))
            -∗ Q (fun c => I.Q l.val c d)))
      ⊢ run d (halfQ (xNb d) l (fun c => I.P l.val c d)) Q := by
  unfold halfQ run
  rw [wp_bind]
  iintro ⟨#Hsh, Hw, HA, HD, Hk⟩
  iapply (loadWout_run I d l)
  isplitl [Hw]; · iexact Hw
  iintro Hw
  iapply (four_run d (fun c => stepQ (xNb d) l (I.wo l.val d) c (I.P l.val c d)) (fun c => I.Q l.val c d) (shared I K) _ _
    (fun n => debt d (left true l n)) (fun c Q => stepQ_run I K d l c Q))
  isplitr; · iexact Hsh
  isplitl [HA]; · iexact HA
  isplitl [HD]; · iexact HD
  iintro ⟨HB, HD⟩
  iapply Hk
  isplitl [Hw]; · iexact Hw
  isplitl [HB]; · iexact HB
  iexact HD

theorem halfP_run (l l' : Fin 3) (hl : l'.val = l.val + 1) (Q : (Fin 4 → FVec F S128x512 .f32) → sProp 𝕄) :
    iprop(shared I K ∗ wiPts I d l' ∗ bigSep Finset.univ (fun c => iprop(fly d true l c ∗ pend d false l' c ∗ idle d false c l'.val)) ∗ debt d (left false l' 0)
        ∗ ((wiPts I d l' ∗ bigSep Finset.univ (fun c => iprop(fin d true l c ∗ idle d true c (l.val + 1) ∗ fly d false l' c)) ∗ debt d (left false l' 4))
            -∗ Q (fun c => I.P l'.val c d)))
      ⊢ run d (halfP (yNb d) l l' (fun c => I.Q l.val c d)) Q := by
  unfold halfP run
  rw [wp_bind]
  iintro ⟨#Hsh, Hw, HA, HD, Hk⟩
  iapply (loadWin_run I d l')
  isplitl [Hw]; · iexact Hw
  iintro Hw
  iapply (four_run d (fun c => stepP (yNb d) l l' (I.wi l'.val d) c (I.Q l.val c d)) (fun c => I.P l'.val c d) (shared I K) _ _
    (fun n => debt d (left false l' n)) (fun c Q => stepP_run I K d l l' hl c Q))
  isplitr; · iexact Hsh
  isplitl [HA]; · iexact HA
  isplitl [HD]; · iexact HD
  iintro ⟨HB, HD⟩
  iapply Hk
  isplitl [Hw]; · iexact Hw
  isplitl [HB]; · iexact HB
  iexact HD

theorem lastOut_run (Q : PUnit → sProp 𝕄) :
    iprop(shared I K ∗ bigSep Finset.univ (fun c => iprop(fly d true 2 c ∗ rowFree d c)) ∗ debt d 0
        ∗ ((bigSep Finset.univ (fun c => iprop(fin d true 2 c ∗ idle d true c 3 ∗ rowDone I d c)) ∗ debt d 0) -∗ Q ⟨⟩))
      ⊢ run d (lastOut (fun c => I.Q 2 c d)) Q := by
  unfold lastOut run
  rw [wp_bind]
  iintro ⟨#Hsh, HA, HD, Hk⟩
  iapply (four_run d (fun c => stepOut c (I.Q 2 c d)) (fun _ => ⟨⟩) (shared I K) _ _
    (fun _ => debt d 0) (fun c Q => stepOut_run I K d c Q))
  isplitr; · iexact Hsh
  isplitl [HA]; · iexact HA
  isplitl [HD]; · iexact HD
  iintro H
  rw [Prog.pure_eq_ret, wp_ret]; imodintro
  iapply Hk; iexact H

end Cert.KernelIdealRun

end
-- ==== Proof.KernelIdeal.Body.lean ====
/-
The whole body of one device.

Families of slab states, one family per direction and layer; the handshake, which turns the two landing buffers
given away into the neighbours'; the seven half layers one after another; the cells closed at the end.
-/
module

public import proofs.«01_k».proof.Proof.KernelIdeal.Halves

@[expose] public section

set_option maxRecDepth 16384
set_option synthInstance.maxSize 1024

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists)

variable {F : FTy → Type} [FloatOps F]

local notation "𝕄" => MT nD τ sig Unit (Elt F) ℕ UU ℕ

variable (I : Inp F) (K : Dev nD × CellIx → ℕ) (d : Dev nD)

/-! ## Families of slab states -/

def pends (b : Bool) (l : Fin 3) : sProp 𝕄 := bigSep Finset.univ fun c => pend d b l c
def idles (b : Bool) (r : ℕ) : sProp 𝕄 := bigSep Finset.univ fun c => idle d b c r
def flys (b : Bool) (l : Fin 3) : sProp 𝕄 := bigSep Finset.univ fun c => fly d b l c
def fins (b : Bool) (l : Fin 3) : sProp 𝕄 := bigSep Finset.univ fun c => fin d b l c

theorem first_half (Q : (Fin 4 → FVec F S128x512 .f32) → sProp 𝕄) :
    iprop(shared I K ∗ wiPts I d 0 ∗ (pends d false 0 ∗ idles d false 0) ∗ (xPts I d ∗ debt d 24)
        ∗ ((wiPts I d 0 ∗ flys d false 0 ∗ (xPts I d ∗ debt d 20)) -∗ Q (fun c => I.P 0 c d)))
      ⊢ run d (halfP0 (yNb d)) Q := by
  have h := halfP0_run I K d Q
  rw [bigSep_sep'] at h
  exact h

theorem second_half (l : Fin 3) (n m k k' : ℕ) (hn : l.val = n) (hm : n + 1 = m) (hk : left true l 0 = k) (hk' : left true l 4 = k')
    (Q : (Fin 4 → FVec F S128x256 .f32) → sProp 𝕄) :
    iprop(shared I K ∗ woPts I d l ∗ (flys d false l ∗ pends d true l ∗ idles d true n) ∗ debt d k
        ∗ ((woPts I d l ∗ (fins d false l ∗ idles d false m ∗ flys d true l) ∗ debt d k') -∗ Q (fun c => I.Q n c d)))
      ⊢ run d (halfQ (xNb d) l (fun c => I.P n c d)) Q := by
  subst hn hm hk hk'
  have h := halfQ_run I K d l Q
  rw [bigSep_three, bigSep_three] at h
  exact h

theorem next_half (l l' : Fin 3) (n m k k' : ℕ) (hn : l.val = n) (hm : n + 1 = m) (hl : l'.val = m) (hk : left false l' 0 = k) (hk' : left false l' 4 = k')
    (Q : (Fin 4 → FVec F S128x512 .f32) → sProp 𝕄) :
    iprop(shared I K ∗ wiPts I d l' ∗ (flys d true l ∗ pends d false l' ∗ idles d false m) ∗ debt d k
        ∗ ((wiPts I d l' ∗ (fins d true l ∗ idles d true m ∗ flys d false l') ∗ debt d k') -∗ Q (fun c => I.P m c d)))
      ⊢ run d (halfP (yNb d) l l' (fun c => I.Q n c d)) Q := by
  subst hn hk hk'
  have h := halfP_run I K d l l' (hl.trans hm.symm) Q
  rw [bigSep_three, bigSep_three, hl, hm] at h
  exact h

theorem last_half (Q : PUnit → sProp 𝕄) :
    iprop(shared I K ∗ (flys d true 2 ∗ bigSep Finset.univ (rowFree d)) ∗ debt d 0
        ∗ (((fins d true 2 ∗ idles d true 3 ∗ bigSep Finset.univ (rowDone I d)) ∗ debt d 0) -∗ Q ⟨⟩))
      ⊢ run d (lastOut (fun c => I.Q 2 c d)) Q := by
  have h := lastOut_run I K d Q
  rw [bigSep_sep', bigSep_three] at h
  exact h

/-! ## The handshake -/

/-- A device's hold on the barriers: its place at its own, and a duty at each neighbour's. -/
def barHold : sProp 𝕄 :=
  iprop(atPos ER (cell d barIx) 0 ∅ 0 ∗ cred (tallyAt (cell d barIx) () 2)
    ∗ dutyTok ER (cell (nb false d) barIx) 0 false ∗ dutyTok ER (cell (nb true d) barIx) 0 true)

/-- What a signal to the neighbour of a direction hands over. -/
theorem bar_pay (b : Bool) : (sched I).payload (cell (nb b d) barIx) 0 b = dstAll d b :=
  (sched_payload I (nb b d) barIx 0 b).trans (by show dstAll (nb b (nb b d)) b = _; rw [nb_nb])

theorem handshake_run (Q : PUnit → sProp 𝕄) :
    iprop(shared I K ∗ barHold d ∗ dstAll d false ∗ dstAll d true ∗ (∃ W, owes (d : Thread nD τ) (owed0 d) W)
        ∗ ((atPos ER (cell d barIx) 1 ∅ 0 ∗ dstAll (nb false d) false ∗ dstAll (nb true d) true ∗ debt d 24) -∗ Q ⟨⟩))
      ⊢ run d (handshake d) Q := by
  unfold run handshake
  simp only [semSignalWord, semWaitWord, Prog.lift, Prog.bind_op, Prog.bind_ret, Prog.pure_eq_ret]
  unfold barHold
  iintro ⟨#Hsh, ⟨Hat, Hc, HtY, HtX⟩, HY, HX, ⟨%W, HO⟩, Hk⟩
  iapply (Rounds.wp_signal 𝒱₀ ER (sched I) (d : Thread nD τ) none (dst := (yNb d : Thread nD τ)) (κ := K (yNb d, barIx))
      (d := false) (by exact (bar_duties I (yNb d)).symm ▸ Finset.mem_univ _) ((sched_amount I (yNb d) barIx 0 false).trans (by decide)) () (owed1 d) rfl)
    $$ [HO HtY HY]
  · isplitr; · iapply (shared_inv I K (yNb d) barIx); iexact Hsh
    isplitl [HO]; · iexact HO
    isplitl [HtY]; · iexact HtY
    isplitl [HY]
    · iapply (show dstAll d false ⊢ (sched I).payload ((yNb d : Thread nD τ), SemLoc.reg barS) 0 false from Entails.of_eq (bar_pay I d false).symm); iexact HY
    iapply (shared_reached I K (yNb d) barIx); iexact Hsh
  iintro HO
  iapply (Rounds.wp_signal 𝒱₀ ER (sched I) (d : Thread nD τ) none (dst := (xNb d : Thread nD τ)) (κ := K (xNb d, barIx))
      (d := true) (by exact (bar_duties I (xNb d)).symm ▸ Finset.mem_univ _) ((sched_amount I (xNb d) barIx 0 true).trans (by decide)) () (rem d 24) rfl)
    $$ [HO HtX HX]
  · isplitr; · iapply (shared_inv I K (xNb d) barIx); iexact Hsh
    isplitl [HO]; · iexact HO
    isplitl [HtX]; · iexact HtX
    isplitl [HX]
    · iapply (show dstAll d true ⊢ (sched I).payload ((xNb d : Thread nD τ), SemLoc.reg barS) 0 true from Entails.of_eq (bar_pay I d true).symm); iexact HX
    iapply (shared_reached I K (xNb d) barIx); iexact Hsh
  iintro HO
  iapply (Rounds.wp_wait_rest_token 𝒱₀ ER (sched I) (d : Thread nD τ) none (κ := K (d, barIx))
      (wpE_semWait_eq 𝒱₀ (d : Thread nD τ) none Set.univ) (Set.mem_univ _) () (O := rem d 24) (W := W) (R := 0) (m := 0) (T := ∅)
      (by rw [Nat.zero_add]; exact (show _ = 2 by decide).trans (bar_expect I d).symm)) $$ [Hc HO Hat]
  · isplitr; · iapply (shared_inv I K d barIx); iexact Hsh
    isplitl [Hc]; · iexact Hc
    isplitl [HO]; · iexact HO
    isplitr
    · iapply (mayWait_rem d _ 24 1 (le_refl _) (lv_bar d).le (by decide)); iapply (shared_lev I K); iexact Hsh
    iexact Hat
  iintro ⟨HO, Hat, -, Hpay⟩
  ihave Hp := (show bigSep ((sched I).duties ((d : Thread nD τ), SemLoc.reg barS) 0 \ ∅) (fun e => (sched I).payload ((d : Thread nD τ), SemLoc.reg barS) 0 e)
    ⊢ iprop(dstAll (nb false d) false ∗ dstAll (nb true d) true) from Entails.of_eq (bar_rest I d)) $$ Hpay
  icases Hp with ⟨HY, HX⟩
  rw [wp_ret]; imodintro
  iapply Hk
  isplitl [Hat]; · iexact Hat
  isplitl [HY]; · iexact HY
  isplitl [HX]; · iexact HX
  unfold debt; iexists (insert (SemLoc.reg barS, ()) W); iexact HO

/-! ## From the handshake to the end -/

/-- What a device holds for a direction: of each slab to come, the duties to pay, its place at the landing cell and the
    credit; of each send slab, its place. -/
def slabHold (b : Bool) (l : Fin 3) (c : Fin 4) : sProp 𝕄 :=
  iprop(dutyTok ER (cell (nb b d) (rcvIx b l c)) 0 false ∗ dutyTok ER (cell d (sndIx b c)) l.val false
    ∗ atPos ER (cell d (rcvIx b l c)) 0 ∅ 0 ∗ cred (tallyAt (cell d (rcvIx b l c)) () (credit b)))
def dirHold (b : Bool) : sProp 𝕄 :=
  iprop((bigSep Finset.univ fun lc : Fin 3 × Fin 4 => slabHold d b lc.1 lc.2) ∗ bigSep Finset.univ fun c => atPos ER (cell d (sndIx b c)) 0 ∅ 0)

omit [FloatOps F] in
theorem bigSep_layers (Φ : Fin 3 → Fin 4 → sProp 𝕄) : (bigSep Finset.univ fun lc : Fin 3 × Fin 4 => Φ lc.1 lc.2)
    = iprop(bigSep Finset.univ (Φ 0) ∗ bigSep Finset.univ (Φ 1) ∗ bigSep Finset.univ (Φ 2)) := by
  rw [bigSep_univ_prod]
  exact bigSep_univ_eq_bigSepL [0, 1, 2] (by decide) (by decide) fun l => bigSep Finset.univ (Φ l)

omit [FloatOps F] in
theorem pend_intro (b : Bool) (l : Fin 3) (c : Fin 4) : (iprop(slabHold d b l c ∗ dstFree (nb b d) l c b) : sProp 𝕄) ⊢ pend d b l c := by
  unfold slabHold pend
  iintro ⟨⟨H1, H2, H3, H4⟩, H5⟩
  isplitl [H1]; · iexact H1
  isplitl [H5]; · iexact H5
  isplitl [H2]; · iexact H2
  isplitl [H3]; · iexact H3
  iexact H4

omit [FloatOps F] in
/-- With the neighbour's landing buffer, the slabs to come are pending. -/
theorem pends_intro (b : Bool) : iprop((bigSep Finset.univ fun lc : Fin 3 × Fin 4 => slabHold d b lc.1 lc.2) ∗ dstAll (nb b d) b)
    ⊢ (iprop(pends d b 0 ∗ pends d b 1 ∗ pends d b 2) : sProp 𝕄) := by
  unfold dstAll pends
  rw [← bigSep_sep', ← bigSep_layers (fun l c => pend d b l c)]
  exact bigSep_mono fun lc _ => pend_intro d b lc.1 lc.2

omit [FloatOps F] in
theorem bigSep_with_persistent {α : Type} [DecidableEq α] {S : Finset α} {R : sProp 𝕄} [BI.Persistent R] {Φ Ψ : α → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The send slabs are idle at round 0. -/
theorem idles_intro (b : Bool) : iprop(shared I K ∗ (bigSep Finset.univ fun c => atPos ER (cell d (sndIx b c)) 0 ∅ 0) ∗ srcBuf d b) ⊢ idles d b 0 := by
  unfold idles
  refine (sep_mono_right (sep_mono_right (srcBuf_split d b))).trans ?_
  rw [← bigSep_sep']
  refine bigSep_with_persistent fun c _ => ?_
  unfold idle
  iintro ⟨#Hsh, Ha, Hs⟩
  isplitl [Ha]; · iexact Ha
  isplitr; · iapply (shared_reached I K d (sndIx b c)); iexact Hsh
  iexact Hs

/-- A device's places after the last round of each cell. -/
def allDone : sProp 𝕄 := bigSep Finset.univ fun i : CellIx => atPos ER (cell d i) (lastRound i) ∅ 0
def allZero : sProp 𝕄 := bigSep Finset.univ fun i : CellIx => semVal (cell d i) 0

omit [FloatOps F] in
theorem bigSep_bool (Φ : Bool → sProp 𝕄) : bigSep Finset.univ Φ = iprop(Φ false ∗ Φ true) :=
  bigSep_univ_eq_bigSepL [false, true] (by decide) (by decide) Φ

omit [FloatOps F] in
/-- A device's cells one kind after another. -/
theorem bigSep_cells (Φ : CellIx → sProp 𝕄) : bigSep Finset.univ Φ
    = iprop(Φ barIx ∗ ((bigSep Finset.univ fun c => Φ (sndIx false c)) ∗ bigSep Finset.univ fun c => Φ (sndIx true c))
      ∗ (bigSep Finset.univ fun lc : Fin 3 × Fin 4 => Φ (rcvIx false lc.1 lc.2)) ∗ bigSep Finset.univ fun lc : Fin 3 × Fin 4 => Φ (rcvIx true lc.1 lc.2)) := by
  rw [bigSep_univ_sum, bigSep_univ_sum, bigSep_univ_eq_bigSepL [()] (by decide) (by decide), bigSepL_singleton, bigSep_univ_prod, bigSep_bool,
    bigSep_univ_prod (fun q : Bool × Fin 3 × Fin 4 => Φ (.inr (.inr q))), bigSep_bool]; rfl

/-- The cells close: each counter is zero, and the device's again. -/
theorem close_all : iprop(shared I K ∗ allDone d) ⊢ (|={Set.univ}=> allZero d : sProp 𝕄) := by
  unfold allDone allZero
  refine (bigSep_with_persistent (R := shared I K) (Ψ := fun i => iprop(|={Set.univ}=> semVal (cell d i) 0)) fun i _ => ?_).trans (bigSep_fupd _ _)
  iintro ⟨#Hsh, Ha⟩
  imod (Rounds.cell_close ER (sched I) (Set.mem_univ (K (d, i))) (fun h => h) (R := lastRound i) (duties_later I d i)) $$ [Ha] with Hz
  · isplitr; · iapply (shared_inv I K d i); iexact Hsh
    iexact Ha
  imodintro; iexact Hz

/-- The end of a direction: the landing cells' places and the landing buffer, the send cells' places and the send buffer. -/
theorem fins_exit (b : Bool) : (iprop(fins d b 0 ∗ fins d b 1 ∗ fins d b 2) : sProp 𝕄)
    ⊢ iprop((bigSep Finset.univ fun lc : Fin 3 × Fin 4 => atPos ER (cell d (rcvIx b lc.1 lc.2)) 1 ∅ 0) ∗ dstBuf d b) := by
  unfold fins
  rw [← bigSep_layers (fun l c => fin d b l c)]
  unfold fin
  rw [bigSep_sep']
  exact sep_mono_right (dstBuf_join d b)
theorem idles_exit (b : Bool) : (idles d b 3 : sProp 𝕄)
    ⊢ iprop((bigSep Finset.univ fun c => atPos ER (cell d (sndIx b c)) 3 ∅ 0) ∗ srcBuf d b) := by
  unfold idles idle
  rw [bigSep_three]
  iintro ⟨H1, -, H2⟩
  isplitl [H1]; · iexact H1
  iapply (srcBuf_join d b); iexact H2

/-- The two buffers of each direction. -/
def bufs : sProp 𝕄 := iprop((srcBuf d false ∗ dstBuf d false) ∗ srcBuf d true ∗ dstBuf d true)
def inBlocks : sProp 𝕄 := iprop(xPts I d ∗ (wiPts I d 0 ∗ wiPts I d 1 ∗ wiPts I d 2) ∗ woPts I d 0 ∗ woPts I d 1 ∗ woPts I d 2)
/-- What a device's body starts from, beside the blocks and the buffers. -/
def hold : sProp 𝕄 := iprop(barHold d ∗ dirHold d false ∗ dirHold d true)

theorem body_run (Q : PUnit → sProp 𝕄) :
    iprop(shared I K ∗ hold d ∗ bufs d ∗ inBlocks I d ∗ (∃ f : Buf (Elt F) ((d : Thread nD τ).loc cc0_stg7_0), ((d : Thread nD τ).loc cc0_stg7_0) ↦{fullShare} f)
        ∗ (∃ W, owes (d : Thread nD τ) (owed0 d) W)
        ∗ ((allZero d ∗ bufs d ∗ inBlocks I d ∗ (((d : Thread nD τ).loc cc0_stg7_0) ↦{fullShare} I.outAll d) ∗ debt d 0) -∗ Q ⟨⟩))
      ⊢ run d body Q := by
  unfold run body
  simp only [Prog.lift, Prog.bind_op, Prog.bind_ret, wp_deviceId]
  unfold hold bufs inBlocks dirHold
  iintro ⟨#Hsh, ⟨Hbar, ⟨HsY, HaY⟩, ⟨HsX, HaX⟩⟩, ⟨⟨HbYs, HbYr⟩, ⟨HbXs, HbXr⟩⟩, ⟨Hx, ⟨Hi0, Hi1, Hi2⟩, ⟨Ho0, Ho1, Ho2⟩⟩, Hout, HO, Hk⟩
  rw [wp_bind]
  iapply (handshake_run I K d)
  isplitr; · iexact Hsh
  isplitl [Hbar]; · iexact Hbar
  isplitl [HbYr]; · unfold dstAll; iapply (dstBuf_split d false); iexact HbYr
  isplitl [HbXr]; · unfold dstAll; iapply (dstBuf_split d true); iexact HbXr
  isplitl [HO]; · iexact HO
  iintro ⟨HaB, HdY, HdX, HO⟩
  ihave HpY := (pends_intro (F := F) d false) $$ [HsY HdY]
  · isplitl [HsY]; · iexact HsY
    iexact HdY
  ihave HpX := (pends_intro (F := F) d true) $$ [HsX HdX]
  · isplitl [HsX]; · iexact HsX
    iexact HdX
  icases HpY with ⟨HpY0, HpY1, HpY2⟩
  icases HpX with ⟨HpX0, HpX1, HpX2⟩
  ihave HiY := (idles_intro I K d false) $$ [HaY HbYs]
  · isplitr; · iexact Hsh
    isplitl [HaY]; · iexact HaY
    iexact HbYs
  ihave HiX := (idles_intro I K d true) $$ [HaX HbXs]
  · isplitr; · iexact Hsh
    isplitl [HaX]; · iexact HaX
    iexact HbXs
  ihave Hrow := (out_split (F := F) d) $$ Hout
  rw [wp_bind]
  iapply (first_half I K d)
  isplitr; · iexact Hsh
  isplitl [Hi0]; · iexact Hi0
  isplitl [HpY0 HiY]
  · isplitl [HpY0]; · iexact HpY0
    iexact HiY
  isplitl [Hx HO]
  · isplitl [Hx]; · iexact Hx
    iexact HO
  iintro ⟨Hi0, HfY, Hx, HO⟩
  rw [wp_bind]
  iapply (second_half I K d 0 0 1 20 16 rfl rfl rfl rfl)
  isplitr; · iexact Hsh
  isplitl [Ho0]; · iexact Ho0
  isplitl [HfY HpX0 HiX]
  · isplitl [HfY]; · iexact HfY
    isplitl [HpX0]; · iexact HpX0
    iexact HiX
  isplitl [HO]; · iexact HO
  iintro ⟨Ho0, ⟨HnY0, HiY, HfX⟩, HO⟩
  rw [wp_bind]
  iapply (next_half I K d 0 1 0 1 16 12 rfl rfl rfl rfl rfl)
  isplitr; · iexact Hsh
  isplitl [Hi1]; · iexact Hi1
  isplitl [HfX HpY1 HiY]
  · isplitl [HfX]; · iexact HfX
    isplitl [HpY1]; · iexact HpY1
    iexact HiY
  isplitl [HO]; · iexact HO
  iintro ⟨Hi1, ⟨HnX0, HiX, HfY⟩, HO⟩
  rw [wp_bind]
  iapply (second_half I K d 1 1 2 12 8 rfl rfl rfl rfl)
  isplitr; · iexact Hsh
  isplitl [Ho1]; · iexact Ho1
  isplitl [HfY HpX1 HiX]
  · isplitl [HfY]; · iexact HfY
    isplitl [HpX1]; · iexact HpX1
    iexact HiX
  isplitl [HO]; · iexact HO
  iintro ⟨Ho1, ⟨HnY1, HiY, HfX⟩, HO⟩
  rw [wp_bind]
  iapply (next_half I K d 1 2 1 2 8 4 rfl rfl rfl rfl rfl)
  isplitr; · iexact Hsh
  isplitl [Hi2]; · iexact Hi2
  isplitl [HfX HpY2 HiY]
  · isplitl [HfX]; · iexact HfX
    isplitl [HpY2]; · iexact HpY2
    iexact HiY
  isplitl [HO]; · iexact HO
  iintro ⟨Hi2, ⟨HnX1, HiX, HfY⟩, HO⟩
  rw [wp_bind]
  iapply (second_half I K d 2 2 3 4 0 rfl rfl rfl rfl)
  isplitr; · iexact Hsh
  isplitl [Ho2]; · iexact Ho2
  isplitl [HfY HpX2 HiX]
  · isplitl [HfY]; · iexact HfY
    isplitl [HpX2]; · iexact HpX2
    iexact HiX
  isplitl [HO]; · iexact HO
  iintro ⟨Ho2, ⟨HnY2, HiY, HfX⟩, HO⟩
  rw [← Prog.bind_pure (lastOut fun c => I.Q 2 c d), wp_bind]
  iapply (last_half I K d)
  isplitr; · iexact Hsh
  isplitl [HfX Hrow]
  · isplitl [HfX]; · iexact HfX
    iexact Hrow
  isplitl [HO]; · iexact HO
  iintro ⟨⟨HnX2, HiX, Hrow⟩, HO⟩
  ihave HeY := (fins_exit d false) $$ [HnY0 HnY1 HnY2]
  · isplitl [HnY0]; · iexact HnY0
    isplitl [HnY1]; · iexact HnY1
    iexact HnY2
  ihave HeX := (fins_exit d true) $$ [HnX0 HnX1 HnX2]
  · isplitl [HnX0]; · iexact HnX0
    isplitl [HnX1]; · iexact HnX1
    iexact HnX2
  ihave HjY := (idles_exit d false) $$ HiY
  ihave HjX := (idles_exit d true) $$ HiX
  icases HeY with ⟨HcYr, HbYr⟩
  icases HeX with ⟨HcXr, HbXr⟩
  icases HjY with ⟨HcYs, HbYs⟩
  icases HjX with ⟨HcXs, HbXs⟩
  imod (close_all I K d) $$ [HaB HcYr HcXr HcYs HcXs] with Hz
  · isplitr; · iexact Hsh
    unfold allDone; rw [bigSep_cells]
    isplitl [HaB]; · iexact HaB
    isplitl [HcYs HcXs]
    · isplitl [HcYs]; · iexact HcYs
      iexact HcXs
    isplitl [HcYr]; · iexact HcYr
    iexact HcXr
  rw [Prog.pure_eq_ret, wp_ret]; imodintro
  iapply Hk
  isplitl [Hz]; · iexact Hz
  isplitl [HbYr HbXr HbYs HbXs]
  · isplitl [HbYr HbYs]
    · isplitl [HbYs]; · iexact HbYs
      iexact HbYr
    isplitl [HbXs]; · iexact HbXs
    iexact HbXr
  isplitl [Hx Hi0 Hi1 Hi2 Ho0 Ho1 Ho2]
  · isplitl [Hx]; · iexact Hx
    isplitl [Hi0 Hi1 Hi2]
    · isplitl [Hi0]; · iexact Hi0
      isplitl [Hi1]; · iexact Hi1
      iexact Hi2
    isplitl [Ho0]; · iexact Ho0
    isplitl [Ho1]; · iexact Ho1
    iexact Ho2
  isplitl [Hrow]; · iapply (out_join I d); iexact Hrow
  iexact HO

end Cert.KernelIdealRun

end
-- ==== Proof.KernelIdeal.Ghost.lean ====
/-
The ghost state at launch.

Every cell of every device starts at round 0; every duty's token is minted with the cell it is of and dealt to the
device that pays it; the credits are what the devices owe. Together they are what a device's body starts from.
-/
module

public import proofs.«01_k».proof.Proof.KernelIdeal.Body
public import proofs.«01_k».proof.Proof.Gen.KernelIdeal.Launch
public import Idealize.ShloMosaic.Lib.Pipeline.Launch

@[expose] public section

set_option maxRecDepth 16384
set_option synthInstance.maxSize 1024

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists)

variable {F : FTy → Type} [FloatOps F]

local notation "𝕄" => MT nD τ sig Unit (Elt F) ℕ UU ℕ

variable (I : Inp F)

/-! ## Cells and tokens -/

def cellAt (di : Dev nD × CellIx) : GSem nD τ sig := cell di.1 di.2
theorem cellAt_injective : Function.Injective cellAt := fun _ _ h => Prod.ext (cell_inj h).1 (cell_inj h).2
def launchCells : Finset (GSem nD τ sig) := Finset.univ.map ⟨cellAt, cellAt_injective⟩

/-- The duties of a device's cells: per direction the barrier's, the send cells' round by round, the landing cells'. -/
abbrev TokIx : Type := Bool × (Unit ⊕ (Fin 3 × Fin 4) ⊕ (Fin 3 × Fin 4))
def dutyOf : TokIx → CellIx × ℕ × Bool
  | (b, .inl _) => (barIx, 0, b)
  | (b, .inr (.inl lc)) => (sndIx b lc.2, lc.1.val, false)
  | (b, .inr (.inr lc)) => (rcvIx b lc.1 lc.2, 0, false)
def dutyOf_inv : CellIx × ℕ × Bool → TokIx
  | (.inl _, _, b) => (b, .inl ())
  | (.inr (.inl (b, c)), r, _) => (b, .inr (.inl (⟨r % 3, Nat.mod_lt _ (by decide)⟩, c)))
  | (.inr (.inr (b, l, c)), _, _) => (b, .inr (.inr (l, c)))
theorem dutyOf_left : Function.LeftInverse dutyOf_inv dutyOf := by
  rintro ⟨b, ⟨⟩ | ⟨l, c⟩ | ⟨l, c⟩⟩
  · rfl
  · exact congrArg (fun l' => (b, Sum.inr (Sum.inl (l', c)))) (Fin.ext (Nat.mod_eq_of_lt l.isLt))
  · rfl
def tokAt (dt : Dev nD × TokIx) : GSem nD τ sig × ℕ × Bool := (cell dt.1 (dutyOf dt.2).1, (dutyOf dt.2).2)
theorem tokAt_injective : Function.Injective tokAt := fun a b h => by
  have h1 := cell_inj (congrArg (fun x : GSem nD τ sig × ℕ × Bool => x.1) h)
  have h2 : (dutyOf a.2).2 = (dutyOf b.2).2 := congrArg (fun x : GSem nD τ sig × ℕ × Bool => x.2) h
  exact Prod.ext h1.1 (dutyOf_left.injective (Prod.ext h1.2 h2))
def launchToks : Finset (GSem nD τ sig × ℕ × Bool) := Finset.univ.map ⟨tokAt, tokAt_injective⟩

/-- The tokens of direction `b` of device `d`'s cells; and those of the duties device `d` pays in direction `b`. -/
def dirToks (d : Dev nD) (b : Bool) : sProp 𝕄 :=
  iprop(dutyTok ER (cell d barIx) 0 b ∗ (bigSep Finset.univ fun lc : Fin 3 × Fin 4 => dutyTok ER (cell d (sndIx b lc.2)) lc.1.val false)
    ∗ bigSep Finset.univ fun lc : Fin 3 × Fin 4 => dutyTok ER (cell d (rcvIx b lc.1 lc.2)) 0 false)
def dirPay (d : Dev nD) (b : Bool) : sProp 𝕄 :=
  iprop(dutyTok ER (cell (nb b d) barIx) 0 b ∗ (bigSep Finset.univ fun lc : Fin 3 × Fin 4 => dutyTok ER (cell d (sndIx b lc.2)) lc.1.val false)
    ∗ bigSep Finset.univ fun lc : Fin 3 × Fin 4 => dutyTok ER (cell (nb b d) (rcvIx b lc.1 lc.2)) 0 false)

omit [FloatOps F] in
theorem toks_eq (d : Dev nD) : (bigSep Finset.univ fun t : TokIx => dutyTok ER (tokAt (d, t)).1 (tokAt (d, t)).2.1 (tokAt (d, t)).2.2 : sProp 𝕄)
    = iprop(dirToks d false ∗ dirToks d true) := by
  rw [bigSep_univ_prod, bigSep_bool]
  have h (b : Bool) : (bigSep Finset.univ fun u : Unit ⊕ (Fin 3 × Fin 4) ⊕ (Fin 3 × Fin 4) =>
      dutyTok ER (tokAt (d, (b, u))).1 (tokAt (d, (b, u))).2.1 (tokAt (d, (b, u))).2.2 : sProp 𝕄) = dirToks d b := by
    rw [bigSep_univ_sum, bigSep_univ_sum, bigSep_univ_eq_bigSepL [()] (by decide) (by decide), bigSepL_singleton]; rfl
  rw [h false, h true]

/-- A direction's neighbour, as a permutation of the devices. -/
def nbE (b : Bool) : Dev nD ≃ Dev nD := ⟨nb b, nb b, nb_nb b, nb_nb b⟩

omit [FloatOps F] in
theorem toks_dealt (b : Bool) : (bigSep Finset.univ fun d : Dev nD => (dirToks d b : sProp 𝕄)) ⊢ bigSep Finset.univ fun d : Dev nD => dirPay d b := by
  unfold dirToks dirPay
  rw [bigSep_sep', bigSep_sep', bigSep_sep', bigSep_sep',
    bigSep_univ_equiv (nbE b) (fun d : Dev nD => (dutyTok ER (cell d barIx) 0 b : sProp 𝕄)),
    bigSep_univ_equiv (nbE b) (fun d : Dev nD => (bigSep Finset.univ fun lc : Fin 3 × Fin 4 => dutyTok ER (cell d (rcvIx b lc.1 lc.2)) 0 false : sProp 𝕄))]
  exact Entails.refl _

/-! ## What is dealt, and what it becomes -/

/-- A device's share of the launch element. -/
def dealt (d : Dev nD) : sProp 𝕄 :=
  iprop((bigSep Finset.univ fun i : CellIx => roundState ER (sched I) (cell d i) 0)
    ∗ ((bigSep Finset.univ fun i : CellIx => atPos ER (cell d i) 0 ∅ 0) ∗ bigSep Finset.univ fun i : CellIx => reached ER (cell d i) 0)
    ∗ dirToks d false ∗ dirToks d true)

theorem dealt_all : bigSep Finset.univ (dealt I)
    = iprop((bigSep Finset.univ fun d : Dev nD => bigSep Finset.univ fun i : CellIx => roundState ER (sched I) (cell d i) 0)
    ∗ ((bigSep Finset.univ fun d : Dev nD => bigSep Finset.univ fun i : CellIx => atPos ER (cell d i) 0 ∅ 0)
      ∗ bigSep Finset.univ fun d : Dev nD => bigSep Finset.univ fun i : CellIx => reached ER (cell d i) 0)
    ∗ bigSep Finset.univ fun d : Dev nD => iprop(dirToks d false ∗ dirToks d true)) := by
  unfold dealt
  rw [bigSep_sep', bigSep_sep', bigSep_sep']

theorem dealt_fund : BI.own (ER (initOf launchCells launchToks)) ⊢ (|==> bigSep Finset.univ (dealt I) : sProp 𝕄) := by
  have hX (Φ : GSem nD τ sig → sProp 𝕄) : bigSep launchCells Φ = bigSep Finset.univ fun d : Dev nD => bigSep Finset.univ fun i : CellIx => Φ (cell d i) := by
    unfold launchCells; rw [bigSep_map, bigSep_univ_prod]; rfl
  have hT : bigSep launchToks (fun x => (dutyTok ER x.1 x.2.1 x.2.2 : sProp 𝕄)) = bigSep Finset.univ fun d : Dev nD => iprop(dirToks d false ∗ dirToks d true) := by
    unfold launchToks; rw [bigSep_map, bigSep_univ_prod]
    exact bigSep_congr fun d _ => toks_eq d
  iintro HX
  imod (Rounds.fund ER (sched I) launchCells launchToks) $$ HX with ⟨Hst, Hr, Hat, Htok⟩
  imodintro
  ihave Hst' := (Entails.of_eq (hX fun g => roundState ER (sched I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  iapply (Entails.of_eq (dealt_all I).symm)
  isplitl [Hst']; · iexact Hst'
  isplitl [Hat' Hr']
  · isplitl [Hat']; · iexact Hat'
    iexact Hr'
  iexact Htok'

/-- The kernel's own semaphores: all but the barrier. -/
def osem (i : (Bool × Fin 4) ⊕ (Bool × Fin 3 × Fin 4)) : SemLoc sig := semOf (.inr i)

omit [FloatOps F] in
theorem unscoped_eq (d : Dev nD) : (unscopedSems0 d : sProp 𝕄) = semVal (cell d barIx) 0 := by
  unfold unscopedSems0; rw [bigSep_eq_bigSepL_of_eq [SemLoc.reg barS] (by decide) (by decide)]; rfl

omit [FloatOps F] in
theorem sems_eq (d : Dev nD) :
    iprop(unscopedSems0 d ∗ Pipeline.ownSems0 (Ix := Unit) (Name := ℕ) (U := UU) (Lvl := ℕ) (Val := Elt F) (τ := τ) osem d) = (allZero d : sProp 𝕄) := by
  unfold allZero Pipeline.ownSems0
  rw [bigSep_univ_sum (fun i : CellIx => (semVal (cell d i) 0 : sProp 𝕄)), bigSep_univ_eq_bigSepL [()] (by decide) (by decide), bigSepL_singleton, unscoped_eq]; rfl

/-- The positions and tokens a device keeps. -/
def keeps (d : Dev nD) : sProp 𝕄 := iprop((bigSep Finset.univ fun i : CellIx => atPos ER (cell d i) 0 ∅ 0) ∗ dirPay d false ∗ dirPay d true)

/-- Every cell's invariant and round 0 reached. -/
def records (K : Dev nD × CellIx → ℕ) : sProp 𝕄 :=
  iprop((bigSep Finset.univ fun di : Dev nD × CellIx => cellInv ER (sched I) (K di) (cell di.1 di.2))
    ∗ bigSep Finset.univ fun di : Dev nD × CellIx => reached ER (cell di.1 di.2) 0)
instance records_persistent (K : Dev nD × CellIx → ℕ) : BI.Persistent (records I K) := by unfold records; infer_instance
def kept (d : Dev nD) : sProp 𝕄 := iprop(∃ K, records I K ∗ keeps d)

theorem alloc (d : Dev nD) :
    iprop(Pipeline.ownSems0 (Ix := Unit) (Name := ℕ) (U := UU) (Lvl := ℕ) (Val := Elt F) (τ := τ) osem d ∗ unscopedSems0 d ∗ dealt I d)
      ⊢ |={Set.univ}=> iprop((bigSep Finset.univ fun i : CellIx => iprop(∃ κ : ℕ, cellInv ER (sched I) κ (cell d i)))
          ∗ ((bigSep Finset.univ fun i : CellIx => atPos ER (cell d i) 0 ∅ 0) ∗ bigSep Finset.univ fun i : CellIx => reached ER (cell d i) 0)
          ∗ dirToks d false ∗ dirToks d true) := by
  unfold dealt
  iintro ⟨Hos, Hus, Hst, Hat, Htok⟩
  ihave Hv := (Entails.of_eq (sems_eq (F := F) d)) $$ [Hos Hus]
  · isplitl [Hus]; · iexact Hus
    iexact Hos
  imod (show iprop(allZero d ∗ bigSep Finset.univ fun i : CellIx => roundState ER (sched I) (cell d i) 0)
      ⊢ (|={Set.univ}=> bigSep Finset.univ fun i : CellIx => iprop(∃ κ : ℕ, cellInv ER (sched I) κ (cell d i)) : sProp 𝕄) from by
        unfold allZero; rw [← bigSep_sep']
        exact (bigSep_mono fun i _ => (Rounds.body_intro ER (sched I) (cell d i)).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

theorem regroup :
    (bigSep Finset.univ fun d : Dev nD => iprop((bigSep Finset.univ fun i : CellIx => iprop(∃ κ : ℕ, cellInv ER (sched I) κ (cell d i)))
          ∗ ((bigSep Finset.univ fun i : CellIx => atPos ER (cell d i) 0 ∅ 0) ∗ bigSep Finset.univ fun i : CellIx => reached ER (cell d i) 0)
          ∗ dirToks d false ∗ dirToks d true) : sProp 𝕄)
      ⊢ bigSep Finset.univ (kept I) := by
  rw [bigSep_sep', bigSep_sep', bigSep_sep', bigSep_sep',
    ← bigSep_univ_prod (fun di : Dev nD × CellIx => iprop(∃ κ : ℕ, cellInv ER (sched I) κ (cell di.1 di.2))),
    ← bigSep_univ_prod (fun di : Dev nD × CellIx => (reached ER (cell di.1 di.2) 0 : sProp 𝕄))]
  iintro ⟨HI, ⟨Hat, #HR⟩, HtY, HtX⟩
  ihave HK := (BI.bigSep_exists_pi Finset.univ (fun (di : Dev nD × CellIx) (κ : ℕ) => (cellInv ER (sched I) κ (cell di.1 di.2) : sProp 𝕄))) $$ HI
  icases HK with ⟨%K, #HI⟩
  ihave HpY := (toks_dealt (F := F) false) $$ HtY
  ihave HpX := (toks_dealt (F := F) true) $$ HtX
  iapply (bigSep_with_persistent (R := records I K) (Φ := keeps) (Ψ := kept I) fun d _ => show iprop(records I K ∗ keeps d) ⊢ kept I d from by
    unfold kept; iintro H; iexists K; iexact H)
  isplitr
  · unfold records; isplitl; · iexact HI
    iexact HR
  · unfold keeps
    rw [bigSep_sep', bigSep_sep']
    isplitl [Hat]; · iexact Hat
    isplitl [HpY]; · iexact HpY
    iexact HpX

/-- Every device's semaphores become the cells' invariants at once. -/
theorem glob : (bigSep Finset.univ fun d => iprop(Pipeline.ownSems0 (Ix := Unit) (Name := ℕ) (U := UU) (Lvl := ℕ) (Val := Elt F) (τ := τ) osem d ∗ unscopedSems0 d ∗ dealt I d) : sProp 𝕄)
    ⊢ |={Set.univ}=> bigSep Finset.univ (kept I) :=
  ((bigSep_mono fun d _ => alloc I d).trans (bigSep_fupd _ _)).trans (BI.fupd_mono (regroup I))

end Cert.KernelIdealRun

end
-- ==== Proof.KernelIdeal.Credits.lean ====
/-
The credits at launch.

What all devices owe a cell is what the cell's own device waits for: two units at the barrier, one transfer's credit
at each landing cell.
-/
module

public import proofs.«01_k».proof.Proof.KernelIdeal.Ghost

@[expose] public section

set_option maxRecDepth 16384
set_option synthInstance.maxSize 1024

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists)

variable {F : FTy → Type} [FloatOps F]

local notation "𝕄" => MT nD τ sig Unit (Elt F) ℕ UU ℕ

/-! ## What a device owes a cell -/

/-- What the last `k` transfers of device `d` owe a landing cell of device `e`. -/
theorem rem_at (d e : Dev nD) (q : Bool × Fin 3 × Fin 4) (k : ℕ) :
    rem d k (cell e (.inr (.inr q))) () = ∑ n ∈ Finset.range k, if stepIx (23 - n) = q ∧ nb q.1 d = e then credit q.1 else 0 := by
  induction k with
  | zero => rfl
  | succ k ih =>
    rw [Finset.sum_range_succ, ← ih, show rem d (k + 1) = rem d k + stepTally d (23 - k) from rfl, Pi.add_apply, Finsupp.add_apply]
    congr 1
    unfold stepTally
    rw [tallyAt_apply]
    by_cases h : stepIx (23 - k) = q ∧ nb q.1 d = e
    · rw [if_pos h, if_pos ⟨by unfold stepCell; rw [h.1, h.2], rfl⟩, h.1]
    · rw [if_neg h, if_neg fun h' => h ?_]
      have hc := cell_inj h'.1
      have hq : q = stepIx (23 - k) := Sum.inr.inj (Sum.inr.inj hc.2)
      exact ⟨hq.symm, by rw [hq]; exact hc.1.symm⟩

/-- Each landing cell is paid by one of the twenty-four transfers. -/
theorem one_step : ∀ q : Bool × Fin 3 × Fin 4, ((Finset.range 24).filter fun n => stepIx (23 - n) = q).card = 1 := by decide

theorem rem_landing (d e : Dev nD) (q : Bool × Fin 3 × Fin 4) : rem d 24 (cell e (.inr (.inr q))) () = if nb q.1 d = e then credit q.1 else 0 := by
  rw [rem_at]
  by_cases h : nb q.1 d = e
  · rw [if_pos h, Finset.sum_congr rfl fun n _ => if_congr (and_iff_left h) rfl rfl, ← Finset.sum_filter, Finset.sum_const, one_step, one_smul]
  · rw [if_neg h]
    exact Finset.sum_eq_zero fun n _ => if_neg fun h' => h h'.2

theorem rem_barrier (d e : Dev nD) : rem d 24 (cell e barIx) () = 0 := by
  by_contra h
  obtain ⟨n, -, hn⟩ := rem_pos (le_refl 24) (Nat.pos_of_ne_zero h)
  exact nomatch (cell_inj hn).2

theorem bar_tally (d e : Dev nD) (q : Bool × Fin 3 × Fin 4) : (tallyAt (cell d barIx) () 1 : CellTallies nD τ sig Unit) (cell e (.inr (.inr q))) () = 0 := by
  rw [tallyAt_apply]; refine if_neg fun h => ?_
  have h' : (.inr (.inr q) : CellIx) = barIx := (cell_inj (i := .inr (.inr q)) (i' := barIx) h.1).2
  exact nomatch h'

theorem owed_landing (d e : Dev nD) (q : Bool × Fin 3 × Fin 4) : owed0 d (cell e (.inr (.inr q))) () = if d = nb q.1 e then credit q.1 else 0 := by
  unfold owed0 owed1
  rw [Pi.add_apply, Finsupp.add_apply, Pi.add_apply, Finsupp.add_apply, rem_landing, bar_tally, bar_tally, Nat.add_zero]
  exact if_congr ⟨fun h => by rw [← h, nb_nb], fun h => by rw [h, nb_nb]⟩ rfl rfl

theorem owed_barrier (d e : Dev nD) : owed0 d (cell e barIx) () = (if d = nb true e then 1 else 0) + (if d = nb false e then 1 else 0) := by
  have hb (b : Bool) : (tallyAt (cell (nb b d) barIx) () 1 : CellTallies nD τ sig Unit) (cell e barIx) () = if d = nb b e then 1 else 0 := by
    rw [tallyAt_apply]
    exact if_congr ⟨fun h => by rw [(cell_inj h.1).1, nb_nb], fun h => ⟨by rw [h, nb_nb], rfl⟩⟩ rfl rfl
  unfold owed0 owed1
  rw [Pi.add_apply, Finsupp.add_apply, Pi.add_apply, Finsupp.add_apply, rem_barrier, hb, hb, Nat.zero_add]

/-! ## What each cell is owed -/

theorem launch_barrier (e : Dev nD) :
    tallyOn (cell e barIx) (launchCredit (Pipeline.owing owed0) 0 (cell e barIx)) = (tallyAt (cell e barIx) () 2 : CellTallies nD τ sig Unit) := by
  unfold tallyAt; refine congrArg _ (Finsupp.ext fun u => ?_); cases u
  rw [Pipeline.launchCredit_owing, Finsupp.single_eq_same, Finset.sum_congr rfl fun d _ => owed_barrier d e, Finset.sum_add_distrib,
    Finset.sum_ite_eq' Finset.univ (nb true e) fun _ => 1, Finset.sum_ite_eq' Finset.univ (nb false e) fun _ => 1, if_pos (Finset.mem_univ _), if_pos (Finset.mem_univ _)]

theorem launch_landing (e : Dev nD) (q : Bool × Fin 3 × Fin 4) :
    tallyOn (cell e (.inr (.inr q))) (launchCredit (Pipeline.owing owed0) 0 (cell e (.inr (.inr q))))
      = (tallyAt (cell e (.inr (.inr q))) () (credit q.1) : CellTallies nD τ sig Unit) := by
  unfold tallyAt; refine congrArg _ (Finsupp.ext fun u => ?_); cases u
  rw [Pipeline.launchCredit_owing, Finsupp.single_eq_same, Finset.sum_congr rfl fun d _ => owed_landing d e q,
    Finset.sum_ite_eq' Finset.univ (nb q.1 e) fun _ => credit q.1, if_pos (Finset.mem_univ _)]

variable (d : Dev nD)

/-- The credits a device's body starts with. -/
def credits : sProp 𝕄 :=
  iprop(cred (tallyAt (cell d barIx) () 2)
    ∗ (bigSep Finset.univ fun lc : Fin 3 × Fin 4 => cred (tallyAt (cell d (rcvIx false lc.1 lc.2)) () (credit false)))
    ∗ bigSep Finset.univ fun lc : Fin 3 × Fin 4 => cred (tallyAt (cell d (rcvIx true lc.1 lc.2)) () (credit true)))

omit [FloatOps F] in
theorem launch_credits : (Pipeline.launchCred owed0 d : sProp 𝕄) ⊢ credits d := by
  have h : (Pipeline.launchCred owed0 d : sProp 𝕄)
      ⊢ bigSep Finset.univ fun i : CellIx => cred (tallyOn (cell d i) (launchCredit (Pipeline.owing owed0) 0 (cell d i))) := by
    unfold Pipeline.launchCred
    refine (bigSep_subset (t := Finset.univ.map ⟨semOf, semOf_injective⟩) (Finset.subset_univ _)).trans ?_
    rw [bigSep_map]; exact Entails.refl _
  refine h.trans ?_
  rw [bigSep_cells, launch_barrier]
  have hl (b : Bool) : (bigSep Finset.univ fun lc : Fin 3 × Fin 4 =>
        (cred (tallyOn (cell d (rcvIx b lc.1 lc.2)) (launchCredit (Pipeline.owing owed0) 0 (cell d (rcvIx b lc.1 lc.2)))) : sProp 𝕄))
      = bigSep Finset.univ fun lc : Fin 3 × Fin 4 => cred (tallyAt (cell d (rcvIx b lc.1 lc.2)) () (credit b)) :=
    bigSep_congr fun lc _ => congrArg _ (launch_landing d (b, lc.1, lc.2))
  rw [hl false, hl true]
  unfold credits
  iintro ⟨H1, -, H2⟩
  isplitl [H1]; · iexact H1
  iexact H2

omit [FloatOps F] in
/-- What the launch leaves a device with is what its body starts from. -/
theorem hold_intro : iprop(keeps d ∗ credits d) ⊢ (hold d : sProp 𝕄) := by
  unfold keeps credits hold barHold dirHold dirPay
  rw [bigSep_cells]
  have hs (b : Bool) : (bigSep Finset.univ fun lc : Fin 3 × Fin 4 => slabHold d b lc.1 lc.2 : sProp 𝕄)
      = iprop((bigSep Finset.univ fun lc : Fin 3 × Fin 4 => dutyTok ER (cell (nb b d) (rcvIx b lc.1 lc.2)) 0 false)
        ∗ (bigSep Finset.univ fun lc : Fin 3 × Fin 4 => dutyTok ER (cell d (sndIx b lc.2)) lc.1.val false)
        ∗ (bigSep Finset.univ fun lc : Fin 3 × Fin 4 => atPos ER (cell d (rcvIx b lc.1 lc.2)) 0 ∅ 0)
        ∗ bigSep Finset.univ fun lc : Fin 3 × Fin 4 => cred (tallyAt (cell d (rcvIx b lc.1 lc.2)) () (credit b))) := by
    unfold slabHold; rw [bigSep_sep', bigSep_sep', bigSep_sep']
  rw [hs false, hs true]
  iintro ⟨⟨⟨HaB, ⟨HaSY, HaSX⟩, HaRY, HaRX⟩, ⟨HtBY, HtSY, HtRY⟩, ⟨HtBX, HtSX, HtRX⟩⟩, HcB, HcY, HcX⟩
  isplitl [HaB HcB HtBY HtBX]
  · isplitl [HaB]; · iexact HaB
    isplitl [HcB]; · iexact HcB
    isplitl [HtBY]; · iexact HtBY
    iexact HtBX
  isplitl [HtRY HtSY HaRY HcY HaSY]
  · isplitr [HaSY]
    · isplitl [HtRY]; · iexact HtRY
      isplitl [HtSY]; · iexact HtSY
      isplitl [HaRY]; · iexact HaRY
      iexact HcY
    iexact HaSY
  isplitr [HaSX]
  · isplitl [HtRX]; · iexact HtRX
    isplitl [HtSX]; · iexact HtSX
    isplitl [HaRX]; · iexact HaRX
    iexact HcX
  iexact HaSX

end Cert.KernelIdealRun

end
-- ==== Proof.KernelIdeal.Run.lean ====
/-
The run of the whole program.

What the pipeline's windows hold before and after the one grid point, the body's obligation, and the launch: every
execution ends, with the argument arrays as they were, the result array at the computed contents, and every
semaphore at zero.
-/
module

public import proofs.«01_k».proof.Proof.KernelIdeal.BodyEq
public import proofs.«01_k».proof.Proof.KernelIdeal.Credits
public import proofs.«01_k».proof.Proof.Gen.KernelIdeal.Points
public import Idealize.ShloMosaic.Lib.Pipeline.CollectiveSegs

@[expose] public section

set_option maxRecDepth 16384
set_option synthInstance.maxSize 1024

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Ring (pointsTo_blocks pointsTo_blocks_join_exists)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- The blocks the devices start from, as the pipeline fetches them. -/
def inp : Inp F where
  x d := (win0_0.blk (0 : Fin 1)).view.read (Elt F) (m ((d : Thread nD τ).loc main_arg0))
  wi l d := match l with
    | 0 => (win0_1.blk (0 : Fin 1)).view.read (Elt F) (m ((d : Thread nD τ).loc main_arg1))
    | 1 => (win0_3.blk (0 : Fin 1)).view.read (Elt F) (m ((d : Thread nD τ).loc main_arg2))
    | _ => (win0_5.blk (0 : Fin 1)).view.read (Elt F) (m ((d : Thread nD τ).loc main_arg3))
  wo l d := match l with
    | 0 => (win0_2.blk (0 : Fin 1)).view.read (Elt F) (m ((d : Thread nD τ).loc main_arg4))
    | 1 => (win0_4.blk (0 : Fin 1)).view.read (Elt F) (m ((d : Thread nD τ).loc main_arg5))
    | _ => (win0_6.blk (0 : Fin 1)).view.read (Elt F) (m ((d : Thread nD τ).loc main_arg6))

/-! ## The pipeline's proof data -/

def start (d : Dev nD) : sProp 𝕄 := iprop(∃ K, shared (inp m) K ∗ hold d)
def Φ₀ (d : Dev nD) : sProp 𝕄 := iprop(start m d ∗ bufs d)
def Φ₁ (d : Dev nD) : sProp 𝕄 := iprop(allZero d ∗ bufs d)

def dats (_ : Fin 1) (d : Dev nD) : Dat τ (Elt F) Unit ℕ UU ℕ cfg0 d where
  A w := (s₀ m ρ).mem ((cfg0.win w).arr.view.loc (d : Thread nD τ))
  after w _ := match w with
    | ⟨0, _⟩ => (inp m).x d
    | ⟨1, _⟩ => (inp m).wi 0 d
    | ⟨2, _⟩ => (inp m).wo 0 d
    | ⟨3, _⟩ => (inp m).wi 1 d
    | ⟨4, _⟩ => (inp m).wo 1 d
    | ⟨5, _⟩ => (inp m).wi 2 d
    | ⟨6, _⟩ => (inp m).wo 2 d
    | ⟨7, _⟩ => (inp m).outAll d
  Φ t := match t with
    | ⟨0, _⟩ => Φ₀ m d
    | ⟨_ + 1, _⟩ => Φ₁ d
  q _ := fullShare
  owed t := match t with
    | ⟨0, _⟩ => owed0 d
    | ⟨_ + 1, _⟩ => 0

omit [FloatOps F] in
theorem owns_whole_eq (d : Dev nD) (b : Ref sig .tc) (X : b.ty.Contents (Elt F)) :
    (owns (Ix := Unit) (Name := ℕ) (U := UU) (Lvl := ℕ) (d : Thread nD τ) (Memref.whole b) fullShare X : sProp 𝕄)
      = iprop(∃ f : Buf (Elt F) ((d : Thread nD τ).loc b), ⌜f = X⌝ ∗ (((d : Thread nD τ).loc b) ↦{fullShare} f)) := by
  unfold owns; simp only [Memref.view_whole, View.read_whole, View.set_whole]

abbrev stg (d : Dev nD) (b : Ref sig .tc) (X : b.ty.Contents (Elt F)) : sProp 𝕄 :=
  iprop(∃ f : Buf (Elt F) ((d : Thread nD τ).loc b), ⌜f = X⌝ ∗ (((d : Thread nD τ).loc b) ↦{fullShare} f))

omit [FloatOps F] in
theorem stg_elim (d : Dev nD) (b : Ref sig .tc) (X : b.ty.Contents (Elt F)) : (stg d b X : sProp 𝕄) ⊢ (((d : Thread nD τ).loc b) ↦{fullShare} X) := by
  iintro ⟨%f, %h, H⟩
  subst h; iexact H
omit [FloatOps F] in
theorem stg_intro (d : Dev nD) (b : Ref sig .tc) (X : b.ty.Contents (Elt F)) : (((d : Thread nD τ).loc b) ↦{fullShare} X : sProp 𝕄) ⊢ stg d b X := by
  iintro H
  iexists X; isplitr; · (ipureintro; rfl)
  iexact H

/-- An input window's staging buffer before the point holds what is fetched. -/
theorem stg_before (d : Dev nD) (w : Fin cfg0.W) (b : Ref sig .tc) (X : b.ty.Contents (Elt F)) (g : ((cfg0.win w).block.Idx → Elt F (cfg0.win w).elt) → b.ty.Contents (Elt F))
    (h : ∀ e, g e = X) : (iprop(∃ e, stg d b (g e)) : sProp 𝕄) ⊢ (((d : Thread nD τ).loc b) ↦{fullShare} X) := by
  iintro ⟨%e, H⟩
  rw [h e]
  iapply (stg_elim d b X); iexact H

theorem before_fetched (d : Dev nD) (w : Fin cfg0.W) (h : (cfg0.win w).fetch t0_0 = true) (e) :
    (dats m ρ 0 d).before w t0_0 e = (dats m ρ 0 d).fetched w t0_0 e := by unfold Dat.before; rw [if_pos h]

def bodyPre (d : Dev nD) : sProp 𝕄 :=
  iprop(Φ₀ m d ∗ (dats m ρ 0 d).owesAt () t0_0.castSucc
    ∗ (∃ e, stg d cc0_stg0_0 ((dats m ρ 0 d).before (0 : Fin 8) t0_0 e)) ∗ (∃ e, stg d cc0_stg1_0 ((dats m ρ 0 d).before (1 : Fin 8) t0_0 e))
    ∗ (∃ e, stg d cc0_stg2_0 ((dats m ρ 0 d).before (2 : Fin 8) t0_0 e)) ∗ (∃ e, stg d cc0_stg3_0 ((dats m ρ 0 d).before (3 : Fin 8) t0_0 e))
    ∗ (∃ e, stg d cc0_stg4_0 ((dats m ρ 0 d).before (4 : Fin 8) t0_0 e)) ∗ (∃ e, stg d cc0_stg5_0 ((dats m ρ 0 d).before (5 : Fin 8) t0_0 e))
    ∗ (∃ e, stg d cc0_stg6_0 ((dats m ρ 0 d).before (6 : Fin 8) t0_0 e)) ∗ (∃ e, stg d cc0_stg7_0 ((dats m ρ 0 d).before (7 : Fin 8) t0_0 e)))

def bodyPost (d : Dev nD) : sProp 𝕄 :=
  iprop(Φ₁ d ∗ (dats m ρ 0 d).owesAt () t0_0.succ
    ∗ stg d cc0_stg0_0 ((inp m).x d) ∗ stg d cc0_stg1_0 ((inp m).wi 0 d) ∗ stg d cc0_stg2_0 ((inp m).wo 0 d) ∗ stg d cc0_stg3_0 ((inp m).wi 1 d)
    ∗ stg d cc0_stg4_0 ((inp m).wo 1 d) ∗ stg d cc0_stg5_0 ((inp m).wi 2 d) ∗ stg d cc0_stg6_0 ((inp m).wo 2 d) ∗ stg d cc0_stg7_0 ((inp m).outAll d))

theorem inBlocks_eq (I : Inp F) (d : Dev nD) : (inBlocks I d : sProp 𝕄)
    = iprop((((d : Thread nD τ).loc cc0_stg0_0) ↦{fullShare} I.x d)
      ∗ ((((d : Thread nD τ).loc cc0_stg1_0) ↦{fullShare} I.wi 0 d) ∗ (((d : Thread nD τ).loc cc0_stg3_0) ↦{fullShare} I.wi 1 d) ∗ (((d : Thread nD τ).loc cc0_stg5_0) ↦{fullShare} I.wi 2 d))
      ∗ (((d : Thread nD τ).loc cc0_stg2_0) ↦{fullShare} I.wo 0 d) ∗ (((d : Thread nD τ).loc cc0_stg4_0) ↦{fullShare} I.wo 1 d) ∗ (((d : Thread nD τ).loc cc0_stg6_0) ↦{fullShare} I.wo 2 d)) := rfl

theorem sound_body (d : Dev nD) : bodyPre m ρ d ⊢ run d body (fun _ => bodyPost m ρ d) := by
  unfold bodyPre Φ₀ start Dat.owesAt Pipeline.owesWithin
  rw [show (dats m ρ 0 d).owed t0_0.castSucc = owed0 d from rfl]
  iintro ⟨⟨⟨%K, Hsh, Hh⟩, Hb⟩, ⟨%W, %hW, HO⟩, H0, H1, H2, H3, H4, H5, H6, ⟨%e7, %f7, -, H7⟩⟩
  iapply (body_run (inp m) K d)
  isplitl [Hsh]; · iexact Hsh
  isplitl [Hh]; · iexact Hh
  isplitl [Hb]; · iexact Hb
  isplitl [H0 H1 H2 H3 H4 H5 H6]
  · rw [inBlocks_eq]
    isplitl [H0]; · iapply (stg_before d (0 : Fin 8) cc0_stg0_0 ((inp m).x d) _ (before_fetched m ρ d (0 : Fin 8) (fetch0_0 _))); iexact H0
    isplitl [H1 H3 H5]
    · isplitl [H1]; · iapply (stg_before d (1 : Fin 8) cc0_stg1_0 ((inp m).wi 0 d) _ (before_fetched m ρ d (1 : Fin 8) (fetch0_1 _))); iexact H1
      isplitl [H3]; · iapply (stg_before d (3 : Fin 8) cc0_stg3_0 ((inp m).wi 1 d) _ (before_fetched m ρ d (3 : Fin 8) (fetch0_3 _))); iexact H3
      iapply (stg_before d (5 : Fin 8) cc0_stg5_0 ((inp m).wi 2 d) _ (before_fetched m ρ d (5 : Fin 8) (fetch0_5 _))); iexact H5
    isplitl [H2]; · iapply (stg_before d (2 : Fin 8) cc0_stg2_0 ((inp m).wo 0 d) _ (before_fetched m ρ d (2 : Fin 8) (fetch0_2 _))); iexact H2
    isplitl [H4]; · iapply (stg_before d (4 : Fin 8) cc0_stg4_0 ((inp m).wo 1 d) _ (before_fetched m ρ d (4 : Fin 8) (fetch0_4 _))); iexact H4
    iapply (stg_before d (6 : Fin 8) cc0_stg6_0 ((inp m).wo 2 d) _ (before_fetched m ρ d (6 : Fin 8) (fetch0_6 _))); iexact H6
  isplitl [H7]; · iexists f7; iexact H7
  isplitl [HO]; · iexists W; iexact HO
  rw [inBlocks_eq]; unfold debt
  iintro ⟨Hz, Hb, ⟨H0, ⟨H1, H3, H5⟩, H2, H4, H6⟩, H7, ⟨%W', HO⟩⟩
  unfold bodyPost Φ₁ Dat.owesAt Pipeline.owesWithin
  rw [show (dats m ρ 0 d).owed t0_0.succ = 0 from rfl]
  isplitl [Hz Hb]
  · isplitl [Hz]; · iexact Hz
    iexact Hb
  isplitl [HO]
  · iexists W'
    isplitr; · ipureintro; exact fun _ _ => Or.inl trivial
    iexact HO
  isplitl [H0]; · iapply (stg_intro d cc0_stg0_0 ((inp m).x d)); iexact H0
  isplitl [H1]; · iapply (stg_intro d cc0_stg1_0 ((inp m).wi 0 d)); iexact H1
  isplitl [H2]; · iapply (stg_intro d cc0_stg2_0 ((inp m).wo 0 d)); iexact H2
  isplitl [H3]; · iapply (stg_intro d cc0_stg3_0 ((inp m).wi 1 d)); iexact H3
  isplitl [H4]; · iapply (stg_intro d cc0_stg4_0 ((inp m).wo 1 d)); iexact H4
  isplitl [H5]; · iapply (stg_intro d cc0_stg5_0 ((inp m).wi 2 d)); iexact H5
  isplitl [H6]; · iapply (stg_intro d cc0_stg6_0 ((inp m).wo 2 d)); iexact H6
  iapply (stg_intro d cc0_stg7_0 ((inp m).outAll d)); iexact H7

/-- The body's obligation at the grid's one point. -/
theorem body_obligation (d : Dev nD) : BodyObligation (dats (F := F) m ρ 0 d) (defs₀ (F := F)) 𝒱₀ () Set.univ := fun t => by
  rw [fin_N0 t]
  rw [bigSep_W0, bigSep_W0]
  simp only [owns_whole_eq]
  show bodyPre m ρ d ⊢ wp frame (wpE (defs₀ (F := F)) 𝒱₀ (d : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7) (fun _ => bodyPost m ρ d)
  rw [body_eq]
  exact sound_body m ρ d

/-! ## The launch -/

theorem ownSemFacts : Pipeline.OwnSemFacts cfg0.spec osem where
  isScoped := by decide
  inj := fun i j h => Sum.inr.inj (semOf_injective h)
  disj := by decide

theorem share_eq (d : Dev nD) (w : Fin cfg0.W) : (dats m ρ 0 d).share w = fullShare := by unfold Dat.share; split <;> rfl

def u₀ : UU := (initOf (Pipeline.cells cfgs cellOf_inj) (Pipeline.launchToks cfgs cellOf_inj), initOf launchCells launchToks)

theorem start_intro (d : Dev nD) :
    iprop(Pipeline.unscopedRestP Pipeline.Prefetch.none cfg0.spec d (fun b => m ((d : Thread nD τ).loc b)) ∗ levAts L lv
        ∗ Pipeline.launchCred owed0 d ∗ prngReg d (ρ d) ∗ kept (inp m) d)
      ⊢ |={Set.univ}=> iprop(start m d ∗ emp) := by
  unfold kept records
  iintro ⟨-, Hlev, Hcr, -, ⟨%K, ⟨HI, HR⟩, Hk⟩⟩
  ihave Hc := (launch_credits (F := F) d) $$ Hcr
  imodintro
  isplitl
  · unfold start
    iexists K
    isplitl [HI HR Hlev]
    · unfold shared
      isplitl [HI]; · iexact HI
      isplitl [HR]; · iexact HR
      iexact Hlev
    iapply (hold_intro (F := F) d)
    isplitl [Hk]; · iexact Hk
    iexact Hc
  · iempintro

omit [FloatOps F] in
theorem rest_eq (d : Dev nD) : (Pipeline.scopedRest (Ix := Unit) (Name := ℕ) (U := UU) (Lvl := ℕ) (Val := Elt F) cfg0.spec d : sProp 𝕄)
    = iprop(srcBuf d false ∗ dstBuf d false ∗ srcBuf d true ∗ dstBuf d true) := scopedRest0_eq d

theorem phi0_intro (d : Dev nD) :
    iprop(start m d ∗ Pipeline.prefHeld Pipeline.Prefetch.none d (fun _ => fullShare.right) (fun k => k.elim0) ∗ Pipeline.scopedRest cfg0.spec d)
      ⊢ (dats m ρ 0 d).Φ 0 := by
  rw [show (dats m ρ 0 d).Φ 0 = Φ₀ m d from rfl, rest_eq]
  unfold Φ₀ bufs
  iintro ⟨Hs, -, H0, H1, H2, H3⟩
  isplitl [Hs]; · iexact Hs
  isplitl [H0 H1]
  · isplitl [H0]; · iexact H0
    iexact H1
  isplitl [H2]; · iexact H2
  iexact H3

theorem phi1_exit (d : Dev nD) :
    (dats m ρ 0 d).Φ (Fin.last cfg0.N) ⊢ iprop(unscopedSems0 d ∗ Pipeline.ownSems0 osem d ∗ Pipeline.scopedRest cfg0.spec d) := by
  rw [show (dats m ρ 0 d).Φ (Fin.last cfg0.N) = Φ₁ d from rfl, rest_eq]
  unfold Φ₁ bufs
  rw [← sems_eq]
  iintro ⟨⟨Hu, Ho⟩, ⟨H0, H1⟩, H2, H3⟩
  isplitl [Hu]; · iexact Hu
  isplitl [Ho]; · iexact Ho
  isplitl [H0]; · iexact H0
  isplitl [H1]; · iexact H1
  isplitl [H2]; · iexact H2
  iexact H3

/-- The staging semaphores are none of the kernel's cells. -/
theorem stage_lv (d : Dev nD) : ∀ (w : Fin cfg0.W) (s : Fin (cfg0.spec w).nbuf), lv ((d : Thread nD τ), SemLoc.dma ((cfg0.spec w).sem s)) () = 0 := by
  have h : ∀ (w : Fin cfg0.W) (s : Fin (cfg0.spec w).nbuf), ixOf (SemLoc.dma ((cfg0.spec w).sem s)) = none := by decide
  intro w s; unfold lv; rw [h]; rfl

theorem waits (d : Dev nD) : (levAts L lv : sProp 𝕄) ⊢ Pipeline.cellsWaits cfgs (dats m ρ) () 0 d :=
  Pipeline.cellsWaits_intro cfgs (dats m ρ) () 0 d fun w s t => by
    rcases t with ⟨_ | _, ht⟩
    · exact mayWait_owed0 d _ (stage_lv d w s)
    · rw [show (dats (F := F) m ρ 0 d).owed ⟨_ + 1, ht⟩ = 0 from rfl, MayWait_zero]; iintro -; iempintro

def finalA (d : Dev nD) (w : Fin cfg0.W) : Buf (Elt F) ((cfg0.win w).arr.view.loc (d : Thread nD τ)) := (dats m ρ 0 d).arrAt w cfg0.N

/-- Every execution ends, each window's array at its final contents and every semaphore at zero. -/
theorem run_main : θ_run defs (onTc (τ := τ) (main (F := F))) (s₀ m ρ)
    (fun r => (∀ d : Dev nD, ∀ w : Fin cfg0.W, r.2.mem ((cfg0.win w).arr.view.loc (d : Thread nD τ)) = finalA m ρ d w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed0) (howed₀ := fun _ => rfl) (howedN := fun _ => rfl)
    (L := L) (lv := lv) (hL := L_of_ne) (hwaits := waits m ρ)
    (G := dealt (inp m)) (G' := kept (inp m)) (u₀ := u₀)
    (hu₀ := by
      unfold u₀
      iintro Hu
      ihave H := (ownU_pair _ _) $$ Hu
      icases H with ⟨HP, HX⟩
      imod (dealt_fund (inp m)) $$ HX with HG
      imodintro
      isplitl [HP] <;> iassumption)
    (hglob := glob (inp m))
    (hA := fun _ _ => rfl) (hpf := fun _ k => k.elim0)
    (X := start m) (Y := fun d => unscopedSems0 d) (Z := fun _ => iprop(emp))
    (hX := start_intro m ρ) (hin := phi0_intro m ρ) (hout := phi1_exit m ρ)
    (QY := fun d s => ∀ sm : SemLoc sig, sm.isScoped .tc = false → s.sem ((d.tc : Thread nD τ), sm) = 0)
    (hY := fun d s' => by
      iintro ⟨Hu, -, HSI⟩
      iapply (Pipeline.unscopedSems0_read (X := unscopedSems0 d) (c := d) fupd_intro s')
      isplitl [Hu] <;> iassumption)
    (hQ := fun _ h hs => ⟨fun d w => (h d).1 w, sem_eq_zero hs fun d => (h d).2.2⟩)

end Cert.KernelIdealRun

end
-- ==== Proof.KernelIdeal.Arrays.lean ====
/-
The arrays after the run.

Every window covers its whole array: what is fetched is the argument array, and what is written back is the result
array. So every execution ends with the result of each device's computation in its result array.
-/
module

public import proofs.«01_k».proof.Proof.KernelIdeal.Run

@[expose] public section

set_option maxRecDepth 16384
set_option synthInstance.maxSize 1024

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Ring (pointsTo_blocks pointsTo_blocks_join_exists)

variable {F : FTy → Type} [FloatOps F]

local notation "𝕄" => MT nD τ sig Unit (Elt F) ℕ UU ℕ

/-! ## A window over a whole array -/

section Whole
variable {s : Shape} {e : EltTy} {cs : CoreSpace} (arr : Memref sig .tc .hbm s e) (o y : Bool)
  (stage : Memref sig .tc (.core cs) ⟨s.rank, s.size⟩ e) (sem : DmaSem sig) (h₁ : arr.IsWhole) (h₂ : stage.IsWhole)

omit [FloatOps F] in
theorem whole_rect (t : Fin Pipeline.Grid.none.N) (i : s.Idx) : ((Pipeline.Window.whole arr o y stage sem h₁ h₂).rect t).emb i = i := by
  funext a; apply Fin.ext
  show 0 * s.size a + 1 * (i a).val = (i a).val
  omega

omit [FloatOps F] in
theorem whole_read (t : Fin Pipeline.Grid.none.N) (f : arr.view.ty.Contents (Elt F)) :
    ((Pipeline.Window.whole arr o y stage sem h₁ h₂).blk t).view.read (Elt F) f = arr.view.read (Elt F) f := by
  funext i
  exact congrArg (arr.view.read (Elt F) f) (whole_rect arr o y stage sem h₁ h₂ t i)

end Whole

variable (m : (ℓ : Loc nD τ sig) → Buf (Elt F) ℓ) (ρ : Dev nD → PrngReg)

/-! ## The inputs are the argument arrays -/

theorem inp_x (d : Dev nD) : (inp m).x d = m ((d : Thread nD τ).loc main_arg0) :=
  whole_read (F := F) (Memref.whole main_arg0) false false (stage0_0 0) (sem0_0 0) (Memref.isWhole_whole _) (hstage0_0 0) (0 : Fin 1) (m ((d : Thread nD τ).loc main_arg0))
theorem inp_wi0 (d : Dev nD) : (inp m).wi 0 d = m ((d : Thread nD τ).loc main_arg1) :=
  whole_read (F := F) (Memref.whole main_arg1) false false (stage0_1 0) (sem0_1 0) (Memref.isWhole_whole _) (hstage0_1 0) (0 : Fin 1) (m ((d : Thread nD τ).loc main_arg1))
theorem inp_wi1 (d : Dev nD) : (inp m).wi 1 d = m ((d : Thread nD τ).loc main_arg2) :=
  whole_read (F := F) (Memref.whole main_arg2) false false (stage0_3 0) (sem0_3 0) (Memref.isWhole_whole _) (hstage0_3 0) (0 : Fin 1) (m ((d : Thread nD τ).loc main_arg2))
theorem inp_wi2 (d : Dev nD) : (inp m).wi 2 d = m ((d : Thread nD τ).loc main_arg3) :=
  whole_read (F := F) (Memref.whole main_arg3) false false (stage0_5 0) (sem0_5 0) (Memref.isWhole_whole _) (hstage0_5 0) (0 : Fin 1) (m ((d : Thread nD τ).loc main_arg3))
theorem inp_wo0 (d : Dev nD) : (inp m).wo 0 d = m ((d : Thread nD τ).loc main_arg4) :=
  whole_read (F := F) (Memref.whole main_arg4) false false (stage0_2 0) (sem0_2 0) (Memref.isWhole_whole _) (hstage0_2 0) (0 : Fin 1) (m ((d : Thread nD τ).loc main_arg4))
theorem inp_wo1 (d : Dev nD) : (inp m).wo 1 d = m ((d : Thread nD τ).loc main_arg5) :=
  whole_read (F := F) (Memref.whole main_arg5) false false (stage0_4 0) (sem0_4 0) (Memref.isWhole_whole _) (hstage0_4 0) (0 : Fin 1) (m ((d : Thread nD τ).loc main_arg5))
theorem inp_wo2 (d : Dev nD) : (inp m).wo 2 d = m ((d : Thread nD τ).loc main_arg6) :=
  whole_read (F := F) (Memref.whole main_arg6) false false (stage0_6 0) (sem0_6 0) (Memref.isWhole_whole _) (hstage0_6 0) (0 : Fin 1) (m ((d : Thread nD τ).loc main_arg6))

/-! ## The result array -/

theorem flushed_eq (d : Dev nD) (t : Fin cfg0.N) :
    (dats m ρ 0 d).flushed (7 : Fin 8) t = ((cfg0.win (7 : Fin 8)).blk t).view.read (Elt F) ((inp m).outAll d) := by
  refine Eq.trans ?_ (whole_read (Memref.whole main_v1) true false (stage0_7 0) (sem0_7 0) (Memref.isWhole_whole _) (hstage0_7 0) t _).symm
  rfl

theorem cover (i : S512x256.Idx) : ∃ t : Fin cfg0.N, (cfg0.win (7 : Fin 8)).flush t = true ∧ i ∈ ((cfg0.win (7 : Fin 8)).blk t).view.set := by
  refine ⟨t0_0, flush0_7 _, ?_⟩
  have h := ((cfg0.win (7 : Fin 8)).blk t0_0).view.emb_mem_set i
  have e : ((cfg0.win (7 : Fin 8)).blk t0_0).view.emb i = i := whole_rect (Memref.whole main_v1) true false (stage0_7 0) (sem0_7 0) (Memref.isWhole_whole _) (hstage0_7 0) t0_0 i
  rw [e] at h
  exact h

theorem finalA_out (d : Dev nD) : finalA m ρ d (7 : Fin 8) = (inp m).outAll d :=
  (dats m ρ 0 d).arrAt_eq_of_cover (7 : Fin 8) ((inp m).outAll d) (fun t _ => flushed_eq m ρ d t) cover

theorem finalA_in (d : Dev nD) (w : Fin cfg0.W) (h : (cfg0.win w).isOut = false) :
    finalA m ρ d w = m ((cfg0.win w).arr.view.loc (d : Thread nD τ)) := (dats m ρ 0 d).arrAt_in w h _

/-- Every execution ends; each device's result array then holds its computed rows, its argument arrays are as they
    were, and every semaphore is at zero. -/
theorem run_value : θ_run defs (onTc (τ := τ) (main (F := F))) ⟨m, fun _ => 0, ρ⟩ (fun r => (∀ d : Dev nD,
      r.2.mem ((d : Thread nD τ).loc main_v1) = (inp m).outAll d
      ∧ r.2.mem ((d : Thread nD τ).loc main_arg0) = m ((d : Thread nD τ).loc main_arg0)
      ∧ r.2.mem ((d : Thread nD τ).loc main_arg1) = m ((d : Thread nD τ).loc main_arg1)
      ∧ r.2.mem ((d : Thread nD τ).loc main_arg2) = m ((d : Thread nD τ).loc main_arg2)
      ∧ r.2.mem ((d : Thread nD τ).loc main_arg3) = m ((d : Thread nD τ).loc main_arg3)
      ∧ r.2.mem ((d : Thread nD τ).loc main_arg4) = m ((d : Thread nD τ).loc main_arg4)
      ∧ r.2.mem ((d : Thread nD τ).loc main_arg5) = m ((d : Thread nD τ).loc main_arg5)
      ∧ r.2.mem ((d : Thread nD τ).loc main_arg6) = m ((d : Thread nD τ).loc main_arg6)) ∧ r.2.sem = fun _ => 0) :=
  (θ_run defs _ _).mono (fun _ h => ⟨fun d => ⟨(h.1 d (7 : Fin 8)).trans (finalA_out m ρ d),
      (h.1 d (0 : Fin 8)).trans (finalA_in m ρ d (0 : Fin 8) rfl), (h.1 d (1 : Fin 8)).trans (finalA_in m ρ d (1 : Fin 8) rfl),
      (h.1 d (3 : Fin 8)).trans (finalA_in m ρ d (3 : Fin 8) rfl), (h.1 d (5 : Fin 8)).trans (finalA_in m ρ d (5 : Fin 8) rfl),
      (h.1 d (2 : Fin 8)).trans (finalA_in m ρ d (2 : Fin 8) rfl), (h.1 d (4 : Fin 8)).trans (finalA_in m ρ d (4 : Fin 8) rfl),
      (h.1 d (6 : Fin 8)).trans (finalA_in m ρ d (6 : Fin 8) rfl)⟩, h.2⟩) (run_main m ρ)

end Cert.KernelIdealRun

end
-- ==== Proof.Value.Layers.lean ====
/-
The layers on extended reals, and a sum split in halves.

`hidden` and `layer` are the mathematics of one layer of the stack; `act` stacks the layers. `sum_halves` is what the
exchange between two devices adds up to: the sum over one half of the indices and the sum over the other.
-/
module

public import Mathlib.Data.EReal.Operations
public import Mathlib.Algebra.BigOperators.Fin

@[expose] public section

noncomputable section

namespace Cert.Layers

open scoped BigOperators

/-! ## The layers -/

/-- The hidden activations of one layer before they are clipped: `A · W`. -/
def hidden (A : Fin 512 → Fin 512 → EReal) (W : Fin 512 → Fin 1024 → EReal) (i : Fin 512) (k : Fin 1024) : EReal :=
  ∑ q : Fin 512, A i q * W q k

/-- One layer: `max (A · W, 0) · V`. -/
def layer (A : Fin 512 → Fin 512 → EReal) (W : Fin 512 → Fin 1024 → EReal) (V : Fin 1024 → Fin 512 → EReal) (i j : Fin 512) : EReal :=
  ∑ k : Fin 1024, max (hidden A W i k) 0 * V k j

/-- The activations that enter layer `l`. -/
def act (X : Fin 512 → Fin 512 → EReal) (W : ℕ → Fin 512 → Fin 1024 → EReal) (V : ℕ → Fin 1024 → Fin 512 → EReal) :
    ℕ → Fin 512 → Fin 512 → EReal
  | 0 => X
  | l + 1 => layer (act X W V l) (W l) (V l)

/-! ## Halves -/

/-- Position `j` of half `b`. -/
def half (n : ℕ) (b : Fin 2) (j : Fin n) : Fin (n + n) :=
  ⟨b.val * n + j.val, by
    have hb := b.isLt; have hj := j.isLt
    have : b.val * n ≤ 1 * n := Nat.mul_le_mul_right n (by omega)
    omega⟩

/-- One half's sum and the other half's, in either order, make the whole sum. -/
theorem sum_halves (n : ℕ) (f : Fin (n + n) → EReal) :
    ∀ b b' : Fin 2, b' ≠ b → (∑ j, f (half n b j)) + ∑ j, f (half n b' j) = ∑ k, f k := by
  have h0 : ∀ j : Fin n, half n 0 j = Fin.castAdd n j := fun j => Fin.ext (by simp [half])
  have h1 : ∀ j : Fin n, half n 1 j = Fin.natAdd n j := fun j => Fin.ext (by simp [half, Nat.add_comm])
  have e : (∑ j, f (half n 0 j)) + ∑ j, f (half n 1 j) = ∑ k, f k := by
    rw [Fin.sum_univ_add]; simp only [h0, h1]
  intro b b' hne
  match b, b' with
  | 0, 0 => exact absurd rfl hne
  | 1, 1 => exact absurd rfl hne
  | 0, 1 => exact e
  | 1, 0 => exact (add_comm _ _).trans e

end Cert.Layers

end
-- ==== Proof.Value.Reference.lean ====
/-
What the reference computes.

One layer of the reference is two plain products with a maximum against zero between them; read at an index it is
`Layers.layer`, since rounding changes nothing in exact arithmetic. The reference's result is three of them.
-/
module

public import proofs.«01_k».proof.Proof.Gen.ReferenceIdeal.Run
public import proofs.«01_k».proof.Proof.Value.Layers
public import Idealize.ShloMosaic.Lib.StackMember
public import Idealize.ShloMosaic.Lib.IdealHost

@[expose] public section

noncomputable section

namespace Cert.ReferenceIdealValue

open Cert.ReferenceIdeal Cert.ReferenceIdeal.Gen Cert.Layers
open Idealize.ShloMosaic Idealize.ShloMosaic.ValueIdx Idealize.ShloMosaic.TcCoe Idealize.SL.Sem

/-- A matrix by its two coordinates. -/
def ent {n k : ℕ} (A : (⟨2, ![n, k]⟩ : Shape).Idx → EReal) (i : Fin n) (j : Fin k) : EReal := A (ix2 i j)

/-- One layer as the reference writes it, rounded to bf16 after each product. -/
def refLayer (A : FVec Ideal S512x512 .bf16) (W : FVec Ideal S512x1024 .bf16) (V : FVec Ideal S1024x512 .bf16) : FVec Ideal S512x512 .bf16 :=
  truncf .bf16 (Host.dotGeneral dot_S512x1024_S1024x512_S512x512_1_0_0_1_n_n none
    (maximumf (truncf .bf16 (Host.dotGeneral dot_S512x512_S512x1024_S512x1024_1_0_0_1_n_n none A W) bitsLt_bf16_f32)
      (broadcastInDim S512x1024 ![] bcast_S_S512x1024 (constant S_ .bf16 0x0000#16)))
    V) bitsLt_bf16_f32

theorem dotIn_plain : dot_S512x512_S512x1024_S512x1024_1_0_0_1_n_n = DotDims.plain 512 512 1024 := rfl
theorem dotOut_plain : dot_S512x1024_S1024x512_S512x512_1_0_0_1_n_n = DotDims.plain 512 1024 512 := rfl

theorem refLayer_ent (A : FVec Ideal S512x512 .bf16) (W : FVec Ideal S512x1024 .bf16) (V : FVec Ideal S1024x512 .bf16) :
    ent (refLayer A W V) = layer (ent A) (ent W) (ent V) := by
  funext i j
  show refLayer A W V (ix2 i j) = _
  unfold refLayer
  rw [dotOut_plain, dotIn_plain, truncf_apply, StackMember.dotGeneral_plain_apply]
  refine Finset.sum_congr rfl fun k _ => congrArg (· * V (ix2 k j)) ?_
  rw [maximumf_apply, truncf_apply, StackMember.dotGeneral_plain_apply, broadcastInDim_scalar_apply, constant_apply, Ideal.ofBits_zero_bf16]
  rfl

/-- A layer's weights among the six weight arguments. -/
def pick {α : Type} (a b c : α) : ℕ → α
  | 0 => a
  | 1 => b
  | _ => c

variable (m : (ℓ : Loc nD τ sig) → Buf (Elt Ideal) ℓ)

/-- The arguments as matrices. -/
def X : Fin 512 → Fin 512 → EReal := ent (m (((0 : Dev nD) : Thread nD τ).loc main_arg0))
def W : ℕ → Fin 512 → Fin 1024 → EReal := pick (ent (m (((0 : Dev nD) : Thread nD τ).loc main_arg1)))
  (ent (m (((0 : Dev nD) : Thread nD τ).loc main_arg2))) (ent (m (((0 : Dev nD) : Thread nD τ).loc main_arg3)))
def V : ℕ → Fin 1024 → Fin 512 → EReal := pick (ent (m (((0 : Dev nD) : Thread nD τ).loc main_arg4)))
  (ent (m (((0 : Dev nD) : Thread nD τ).loc main_arg5))) (ent (m (((0 : Dev nD) : Thread nD τ).loc main_arg6)))

/-- The reference's result. -/
def result : FVec Ideal S512x512 .f32 :=
  extf .f32 (refLayer (refLayer (refLayer (m (((0 : Dev nD) : Thread nD τ).loc main_arg0))
    (m (((0 : Dev nD) : Thread nD τ).loc main_arg1)) (m (((0 : Dev nD) : Thread nD τ).loc main_arg4)))
    (m (((0 : Dev nD) : Thread nD τ).loc main_arg2)) (m (((0 : Dev nD) : Thread nD τ).loc main_arg5)))
    (m (((0 : Dev nD) : Thread nD τ).loc main_arg3)) (m (((0 : Dev nD) : Thread nD τ).loc main_arg6))) bitsLt_bf16_f32

/-- It is the activations after three layers. -/
theorem result_ent : ent (result m) = act (X m) (W m) (V m) 3 := by
  show ent (refLayer (refLayer (refLayer _ _ _) _ _) _ _) = _
  rw [refLayer_ent, refLayer_ent, refLayer_ent]
  rfl

/-- Every execution of the reference ends with that result and with its arguments as they were. -/
theorem run_result (ρ : Dev nD → PrngReg) :
    θ_run defs (onTc (τ := τ) (main (F := Ideal))) ⟨m, fun _ => 0, ρ⟩ fun r =>
      r.2.mem (((0 : Dev nD) : Thread nD τ).loc main_v18) = result m
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1)
      ∧ r.2.mem (((0 : Dev nD) : Thread nD τ).loc main_arg2) = m (((0 : Dev nD) : Thread nD τ).loc main_arg2)
      ∧ r.2.mem (((0 : Dev nD) : Thread nD τ).loc main_arg3) = m (((0 : Dev nD) : Thread nD τ).loc main_arg3)
      ∧ r.2.mem (((0 : Dev nD) : Thread nD τ).loc main_arg4) = m (((0 : Dev nD) : Thread nD τ).loc main_arg4)
      ∧ r.2.mem (((0 : Dev nD) : Thread nD τ).loc main_arg5) = m (((0 : Dev nD) : Thread nD τ).loc main_arg5)
      ∧ r.2.mem (((0 : Dev nD) : Thread nD τ).loc main_arg6) = m (((0 : Dev nD) : Thread nD τ).loc main_arg6) :=
  (θ_run defs _ _).mono (fun _ h => h 0) (Value.run m ρ)

end Cert.ReferenceIdealValue

end
-- ==== Proof.Value.Product.lean ====
/-
What one block computes, in exact arithmetic.

A chunk's two products as sums over the contracted index, and the exchanged sums as sums of two entries. Rounding to
bf16 and widening back change nothing.
-/
module

public import proofs.«01_k».proof.Proof.KernelIdeal.Halves
public import Idealize.ShloMosaic.Lib.MatmulPlain
public import Idealize.ShloMosaic.Lib.ValueIdx
public import Idealize.ShloMosaic.Lib.Pipeline.Value

@[expose] public section

noncomputable section

namespace Cert.KernelIdealValue

open Cert.KernelIdeal Cert.KernelIdeal.Gen Cert.KernelIdealRun
open Idealize.ShloMosaic Idealize.ShloMosaic.ValueIdx Idealize.SL.Sem

theorem dotIn_plain : dot_S128x256_S256x512_S128x512_1_0_0_1_n_n = DotDims.plain 128 256 512 := rfl
theorem dotOut_plain : dot_S128x512_S512x256_S128x256_1_0_0_1_n_n = DotDims.plain 128 512 256 := rfl

/-- A plain product onto a zero accumulator, at an index. -/
theorem matmul_zero_apply {M K N : ℕ} (a : FVec Ideal ⟨2, ![M, K]⟩ .bf16) (w : FVec Ideal ⟨2, ![K, N]⟩ .bf16) (r : Fin M) (c : Fin N) :
    matmul (DotDims.plain M K N) none a w (constant (F := Ideal) ⟨2, ![M, N]⟩ .f32 0x00000000#32) (ix2 r c) = ∑ k : Fin K, a (ix2 r k) * w (ix2 k c) := by
  refine (Ideal.matmul_plain_apply none a w _ r c).trans ?_
  rw [constant_apply, Ideal.ofBits_zero_f32, zero_add]

/-- The first product of a chunk. -/
theorem mulIn_apply (w : Vec Ideal S256x512 .bf16) (a : FVec Ideal S128x256 .bf16) (r : Fin 128) (k : Fin 512) :
    mulIn w a (ix2 r k) = ∑ j : Fin 256, a (ix2 r j) * (w : FVec Ideal S256x512 .bf16) (ix2 j k) := by
  unfold mulIn castWin
  rw [dotIn_plain, shapeCast_self]
  exact matmul_zero_apply a w r k

/-- The second product of a chunk, of the first one clipped below at zero. -/
theorem mulOut_apply (w : Vec Ideal S512x256 .bf16) (h : FVec Ideal S128x512 .f32) (r : Fin 128) (j : Fin 256) :
    mulOut w h (ix2 r j) = ∑ k : Fin 512, max (h (ix2 r k)) 0 * (w : FVec Ideal S512x256 .bf16) (ix2 k j) := by
  unfold mulOut castWout
  rw [dotOut_plain, shapeCast_self]
  refine (matmul_zero_apply _ w r j).trans (Finset.sum_congr rfl fun k _ => congrArg (· * (w : FVec Ideal S512x256 .bf16) (ix2 k j)) ?_)
  rw [truncf_apply, maximumf_apply]
  exact congrArg (max (h (ix2 r k))) Ideal.ofBits_zero_f32

/-- The own partial sum plus the neighbour's. -/
theorem sumY_apply (p q : FVec Ideal S128x512 .f32) (i : S128x512.Idx) : sumY p (sentY q) i = p i + q i := rfl
theorem sumX_apply (p q : FVec Ideal S128x256 .f32) (i : S128x256.Idx) : sumX p (sentX q) i = p i + q i := rfl

/-- Row `r` of chunk `c` in the whole array. -/
def rowAt (c : Fin 4) (r : Fin 128) : Fin 512 := ⟨128 * c.val + r.val, by have := c.isLt; have := r.isLt; omega⟩

/-- A chunk's rows of the input block. -/
theorem rowsOf_apply (c : Fin 4) (x : Vec Ideal S512x256 .bf16) (r : Fin 128) (j : Fin 256) :
    rowsOf c x (ix2 r j) = x (ix2 (rowAt c r) j) := by
  unfold rowsOf
  rw [shapeCast_self]
  refine congrArg x (funext fun a => Fin.ext ?_)
  match a with
  | ⟨0, _⟩ => show 128 * c.val + 1 * r.val = 128 * c.val + r.val; omega
  | ⟨1, _⟩ => show 0 + 1 * j.val = j.val; omega

/-- The rows that enter layer `l`, chunk `c`, on device `d`. -/
def entering (I : Inp Ideal) : ℕ → Fin 4 → Dev nD → FVec Ideal S128x256 .bf16
  | 0, c, d => rowsOf c (I.x d)
  | l + 1, c, d => truncf .bf16 (passed (I.Q l) c d) bitsLt_bf16_f32

theorem P_eq (I : Inp Ideal) (l : ℕ) (c : Fin 4) (d : Dev nD) : I.P l c d = mulIn (I.wi l d) (entering I l c d) := by
  cases l <;> rfl

/-- The result, by its two coordinates. -/
theorem outAll_apply (I : Inp Ideal) (d : Dev nD) (i : S512x256.Idx) : ∃ c r, rowAt c r = i 0 ∧ I.outAll d i = entering I 3 c d (ix2 r (i 1)) := by
  refine ⟨chunkOf i, ⟨(i 0).val % 128, Nat.mod_lt _ (by decide)⟩, Fin.ext ?_, ?_⟩
  · show 128 * ((i 0).val / 128) + (i 0).val % 128 = (i 0).val
    exact Nat.div_add_mod _ _
  · show I.out (chunkOf i) d _ = I.out (chunkOf i) d _
    refine congrArg (I.out (chunkOf i) d) (funext fun a => ?_)
    match a with
    | ⟨0, _⟩ => rfl
    | ⟨1, _⟩ => rfl

end Cert.KernelIdealValue

end
-- ==== Proof.Value.Equation.lean ====
/-
The equation: what the devices compute is the layers.

The devices stand in a 2 × 2 square. A device with coordinates `(x, y)` holds the columns of half `y` of the
activations, and of each layer's weights the block that takes half `y` of the activations to half `x` of the hidden
ones, and the block that takes these back to half `y`. A first product summed with the `y` neighbour's is therefore a
whole row of hidden activations, and a second product summed with the `x` neighbour's a whole entry of the layer's
result. One lemma says this of any layer; the rest is induction on the layers.
-/
module

public import proofs.«01_k».proof.Proof.Value.Layers
public import proofs.«01_k».proof.Proof.Value.Product

@[expose] public section

noncomputable section

namespace Cert.KernelIdealValue

open Cert.KernelIdeal Cert.KernelIdeal.Gen Cert.KernelIdealRun Cert.Layers
open Idealize.ShloMosaic Idealize.ShloMosaic.ValueIdx Idealize.SL.Sem

/-- A device's two coordinates. -/
def xOf (d : Dev nD) : Fin 2 := ⟨d.val / 2, by have : d.val < 4 := d.isLt; omega⟩
def yOf (d : Dev nD) : Fin 2 := ⟨d.val % 2, Nat.mod_lt _ (by decide)⟩

theorem xOf_yNb : ∀ d : Dev nD, xOf (yNb d) = xOf d := by decide
theorem yOf_xNb : ∀ d : Dev nD, yOf (xNb d) = yOf d := by decide
theorem yOf_yNb : ∀ d : Dev nD, yOf (yNb d) ≠ yOf d := by decide
theorem xOf_xNb : ∀ d : Dev nD, xOf (xNb d) ≠ xOf d := by decide

/-- The devices' input blocks are the blocks of the whole arrays `X`, `W l`, `V l`. -/
structure Cut (I : Inp Ideal) (X : Fin 512 → Fin 512 → EReal) (W : ℕ → Fin 512 → Fin 1024 → EReal)
    (V : ℕ → Fin 1024 → Fin 512 → EReal) : Prop where
  x : ∀ d i j, I.x d (ix2 i j) = X i (half 256 (yOf d) j)
  wi : ∀ l, l < 3 → ∀ d j k, I.wi l d (ix2 j k) = W l (half 256 (yOf d) j) (half 512 (xOf d) k)
  wo : ∀ l, l < 3 → ∀ d k j, I.wo l d (ix2 k j) = V l (half 512 (xOf d) k) (half 256 (yOf d) j)

variable {I : Inp Ideal} {X : Fin 512 → Fin 512 → EReal} {W : ℕ → Fin 512 → Fin 1024 → EReal} {V : ℕ → Fin 1024 → Fin 512 → EReal}

/-- A layer's first products, summed over the two devices along `y`, from the rows that enter it. -/
theorem hidden_sum (h : Cut I X W V) {l : ℕ} (hl : l < 3) (A : Fin 512 → Fin 512 → EReal) (c : Fin 4)
    (hA : ∀ d r j, entering I l c d (ix2 r j) = A (rowAt c r) (half 256 (yOf d) j)) (d : Dev nD) (r : Fin 128) (k : Fin 512) :
    sumY (I.P l c d) (sentY (I.P l c (yNb d))) (ix2 r k) = hidden A (W l) (rowAt c r) (half 512 (xOf d) k) := by
  rw [sumY_apply, P_eq, P_eq, mulIn_apply, mulIn_apply]
  simp only [hA, h.wi l hl, xOf_yNb]
  exact sum_halves 256 (fun q => A (rowAt c r) q * W l q (half 512 (xOf d) k)) _ _ (yOf_yNb d)

/-- A layer's second products, summed over the two devices along `x`. -/
theorem layer_sum (h : Cut I X W V) {l : ℕ} (hl : l < 3) (A : Fin 512 → Fin 512 → EReal) (c : Fin 4)
    (hA : ∀ d r j, entering I l c d (ix2 r j) = A (rowAt c r) (half 256 (yOf d) j)) (d : Dev nD) (r : Fin 128) (j : Fin 256) :
    sumX (I.Q l c d) (sentX (I.Q l c (xNb d))) (ix2 r j) = layer A (W l) (V l) (rowAt c r) (half 256 (yOf d) j) := by
  rw [sumX_apply, I.Q_eq, I.Q_eq, mulOut_apply, mulOut_apply]
  simp only [hidden_sum h hl A c hA, h.wo l hl, yOf_xNb]
  exact sum_halves 512 (fun k => max (hidden A (W l) (rowAt c r) k) 0 * V l k (half 256 (yOf d) j)) _ _ (xOf_xNb d)

/-- The rows that enter a layer on a device are its half of the activations that enter it. -/
theorem entering_eq (h : Cut I X W V) (c : Fin 4) : ∀ l, l ≤ 3 → ∀ d r j,
    entering I l c d (ix2 r j) = act X W V l (rowAt c r) (half 256 (yOf d) j)
  | 0, _, d, r, j => (rowsOf_apply c (I.x d) r j).trans (h.x d _ j)
  | l + 1, hl, d, r, j => layer_sum h hl (act X W V l) c (entering_eq h c l (Nat.le_of_lt hl)) d r j

/-- The result on a device is its half of the activations after three layers. -/
theorem outAll_eq (h : Cut I X W V) (d : Dev nD) (i : Fin 512) (j : Fin 256) :
    I.outAll d (ix2 i j) = act X W V 3 i (half 256 (yOf d) j) := by
  obtain ⟨c, r, hr, e⟩ := outAll_apply I d (ix2 i j)
  have hr' : rowAt c r = i := hr
  rw [e, ← hr']
  exact entering_eq h c 3 (Nat.le_refl 3) d r j

end Cert.KernelIdealValue

end
-- ==== Proof.Value.Blocks.lean ====
/-
The devices' parts of the whole arrays.

A block of a matrix cut along the two axes of the square of devices, read at an index: each cut coordinate is a half of
the whole one, the half that the device's coordinate names. With the arguments so placed, the devices' input blocks
are `Cut` from the reference's arguments, and each device's result is its block of the reference's.
-/
module

public import proofs.«01_k».proof.Proof.KernelIdeal.Arrays
public import proofs.«01_k».proof.Proof.Value.Equation
public import proofs.«01_k».proof.Proof.Value.Reference

@[expose] public section

noncomputable section

namespace Cert.KernelIdealValue

open Cert.KernelIdeal Cert.KernelIdeal.Gen Cert.KernelIdealRun Cert.Layers
open Cert.ReferenceIdealValue (ent pick X W V result result_ent)
open Idealize.ShloMosaic Idealize.ShloMosaic.ValueIdx Idealize.ShloMosaic.TcCoe Idealize.SL.Sem

/-- The place of a block's entry in the whole array, from its two coordinates. -/
theorem idx_ix2 {n k N K : ℕ} {cuts : Fin 2 → ℕ} (h : Layout.TilesN ⟨2, ![n, k]⟩ ⟨2, ![N, K]⟩ cuts)
    (b : (a : Fin 2) → Fin (cuts a)) (i : Fin n) (j : Fin k) (I : Fin N) (J : Fin K)
    (hi : I.val = (b 0).val * n + i.val) (hj : J.val = (b 1).val * k + j.val) : h.idx b (ix2 i j) = ix2 I J := by
  funext a
  match a with
  | ⟨0, _⟩ => exact Fin.ext hi.symm
  | ⟨1, _⟩ => exact Fin.ext hj.symm

/-! ## The three ways the arrays are cut -/

theorem axis_x : ∀ d : Dev nD, Layout.meshLin [2, 2] d.val [0] = (xOf d).val := by decide
theorem axis_y : ∀ d : Dev nD, Layout.meshLin [2, 2] d.val [1] = (yOf d).val := by decide

/-- Columns along `y`, rows whole: the activations. -/
theorem block_act (d : Dev nD) (v : (⟨2, ![512, 512]⟩ : Shape).Idx → EReal) (i : Fin 512) (j : Fin 256) :
    Layout.blockN ⟨2, ![512, 256]⟩ ⟨2, ![512, 512]⟩ (Layout.meshBlock [2, 2] ![[], [1]] d) v (by decide) (ix2 i j) = ent v i (half 256 (yOf d) j) :=
  congrArg v (idx_ix2 _ _ i j i (half 256 (yOf d) j) (by show i.val = 0 * 512 + i.val; omega)
    (congrArg (· * 256 + j.val) (axis_y d).symm))

/-- Rows along `y`, columns along `x`: a layer's first weights. -/
theorem block_in (d : Dev nD) (v : (⟨2, ![512, 1024]⟩ : Shape).Idx → EReal) (j : Fin 256) (k : Fin 512) :
    Layout.blockN ⟨2, ![256, 512]⟩ ⟨2, ![512, 1024]⟩ (Layout.meshBlock [2, 2] ![[1], [0]] d) v (by decide) (ix2 j k)
      = ent v (half 256 (yOf d) j) (half 512 (xOf d) k) :=
  congrArg v (idx_ix2 _ _ j k (half 256 (yOf d) j) (half 512 (xOf d) k) (congrArg (· * 256 + j.val) (axis_y d).symm)
    (congrArg (· * 512 + k.val) (axis_x d).symm))

/-- Rows along `x`, columns along `y`: its second weights. -/
theorem block_out (d : Dev nD) (v : (⟨2, ![1024, 512]⟩ : Shape).Idx → EReal) (k : Fin 512) (j : Fin 256) :
    Layout.blockN ⟨2, ![512, 256]⟩ ⟨2, ![1024, 512]⟩ (Layout.meshBlock [2, 2] ![[0], [1]] d) v (by decide) (ix2 k j)
      = ent v (half 512 (xOf d) k) (half 256 (yOf d) j) :=
  congrArg v (idx_ix2 _ _ k j (half 512 (xOf d) k) (half 256 (yOf d) j) (congrArg (· * 512 + k.val) (axis_x d).symm)
    (congrArg (· * 256 + j.val) (axis_y d).symm))

/-! ## The arguments and the result -/

section Arguments
variable {m : (ℓ : Loc nD τ sig) → Buf (Elt Ideal) ℓ} {m' : (ℓ : Loc ReferenceIdeal.nD ReferenceIdeal.τ ReferenceIdeal.sig) → Buf (Elt Ideal) ℓ}

/-- The contents of one of the reference's arrays: a whole array, of which the devices hold blocks. -/
abbrev whole (m' : (ℓ : Loc ReferenceIdeal.nD ReferenceIdeal.τ ReferenceIdeal.sig) → Buf (Elt Ideal) ℓ) (b : Ref ReferenceIdeal.sig .tc) :=
  m' (((0 : Dev ReferenceIdeal.nD) : Thread ReferenceIdeal.nD ReferenceIdeal.τ).loc b)

/-- Arguments placed by their blocks make the input blocks those of the whole arrays. -/
theorem cut_of (h : ∀ d : Dev nD,
      m ((d : Thread nD τ).loc main_arg0) = Layout.blockN ⟨2, ![512, 256]⟩ ⟨2, ![512, 512]⟩ (Layout.meshBlock [2, 2] ![[], [1]] d) (whole m' ReferenceIdeal.main_arg0)
      ∧ m ((d : Thread nD τ).loc main_arg1) = Layout.blockN ⟨2, ![256, 512]⟩ ⟨2, ![512, 1024]⟩ (Layout.meshBlock [2, 2] ![[1], [0]] d) (whole m' ReferenceIdeal.main_arg1)
      ∧ m ((d : Thread nD τ).loc main_arg2) = Layout.blockN ⟨2, ![256, 512]⟩ ⟨2, ![512, 1024]⟩ (Layout.meshBlock [2, 2] ![[1], [0]] d) (whole m' ReferenceIdeal.main_arg2)
      ∧ m ((d : Thread nD τ).loc main_arg3) = Layout.blockN ⟨2, ![256, 512]⟩ ⟨2, ![512, 1024]⟩ (Layout.meshBlock [2, 2] ![[1], [0]] d) (whole m' ReferenceIdeal.main_arg3)
      ∧ m ((d : Thread nD τ).loc main_arg4) = Layout.blockN ⟨2, ![512, 256]⟩ ⟨2, ![1024, 512]⟩ (Layout.meshBlock [2, 2] ![[0], [1]] d) (whole m' ReferenceIdeal.main_arg4)
      ∧ m ((d : Thread nD τ).loc main_arg5) = Layout.blockN ⟨2, ![512, 256]⟩ ⟨2, ![1024, 512]⟩ (Layout.meshBlock [2, 2] ![[0], [1]] d) (whole m' ReferenceIdeal.main_arg5)
      ∧ m ((d : Thread nD τ).loc main_arg6) = Layout.blockN ⟨2, ![512, 256]⟩ ⟨2, ![1024, 512]⟩ (Layout.meshBlock [2, 2] ![[0], [1]] d) (whole m' ReferenceIdeal.main_arg6)) :
    Cut (inp m) (X m') (W m') (V m') where
  x d i j := by rw [inp_x, (h d).1]; exact block_act d _ i j
  wi l hl d j k := by
    obtain ⟨_, h1, h2, h3, _⟩ := h d
    match l, hl with
    | 0, _ => rw [inp_wi0, h1]; exact block_in d _ j k
    | 1, _ => rw [inp_wi1, h2]; exact block_in d _ j k
    | 2, _ => rw [inp_wi2, h3]; exact block_in d _ j k
  wo l hl d k j := by
    obtain ⟨_, _, _, _, h4, h5, h6⟩ := h d
    match l, hl with
    | 0, _ => rw [inp_wo0, h4]; exact block_out d _ k j
    | 1, _ => rw [inp_wo1, h5]; exact block_out d _ k j
    | 2, _ => rw [inp_wo2, h6]; exact block_out d _ k j

/-- Each device's result is its block of the reference's. -/
theorem outAll_block (h : Cut (inp m) (X m') (W m') (V m')) (d : Dev nD) :
    (inp m).outAll d = Layout.blockN ⟨2, ![512, 256]⟩ ⟨2, ![512, 512]⟩ (Layout.meshBlock [2, 2] ![[], [1]] d) (result m') := by
  funext i
  rw [eq_ix2 i]
  refine (outAll_eq h d (i 0) (i 1)).trans ?_
  rw [← result_ent]
  exact (block_act d (result m') (i 0) (i 1)).symm

end Arguments

end Cert.KernelIdealValue

end
-- ==== Proof.lean ====
/-
The claims.

The two kernels' executions (`run_value`, once for words and once for extended reals) give the frames; the reference's
gives its own; the two kernels are the same text, so nothing was rewritten between them; and the equation between the
devices' result arrays and the reference's gives the algebraic claim.
-/
module

public import proofs.«01_k».proof.Defs
public import proofs.«01_k».proof.Proof.Gen.Kernel
public import proofs.«01_k».proof.Proof.Kernel.Arrays
public import proofs.«01_k».proof.Proof.Gen.KernelIdeal
public import proofs.«01_k».proof.Proof.KernelIdeal.Arrays
public import proofs.«01_k».proof.Proof.Gen.ReferenceIdeal
public import proofs.«01_k».proof.Proof.Gen.ReferenceIdeal.Run
public import proofs.«01_k».proof.Proof.Value.Reference
public import proofs.«01_k».proof.Proof.Value.Blocks
public import Idealize.ShloMosaic.Lib.Quiescent
public import Idealize.ShloMosaic.Adequacy
public import Idealize.ShloMosaic.Init

@[expose] public section

noncomputable section

namespace Cert.Proof

open Idealize.ShloMosaic Idealize.SL.Sem

/-- The kernel at words: it ends, its arguments unchanged and its semaphores at zero. -/
theorem frame_kernel : Cert.quiescent_Kernel := fun m g _ =>
  (θ_run _ _ _).mono (fun _ h => ⟨fun c => (h.1 c).2, h.2⟩) (Cert.KernelRun.run_value m g)

/-- The kernel at extended reals. -/
theorem frame_kernelIdeal : Cert.quiescent_KernelIdeal := fun m g _ =>
  (θ_run _ _ _).mono (fun _ h => ⟨fun c => (h.1 c).2, h.2⟩) (Cert.KernelIdealRun.run_value m g)

/-- The reference: it has no semaphore. -/
theorem frame_reference : Cert.quiescent_ReferenceIdeal := fun m g _ =>
  (θ_run _ _ _).mono (fun r h => ⟨fun c => (h c).2, sem_eq_zero_of_no_sems rfl r.2⟩) (Cert.ReferenceIdeal.Value.run m g)

/-- Each device's result is its block of the reference's. -/
theorem algebraic : Cert.algebraic_KernelIdeal_ReferenceIdeal := fun m g m' g' _ h =>
  ⟨Cert.ReferenceIdealValue.result m',
    (θ_run _ _ _).mono (fun _ k c => ⟨(k.1 c).1.trans (Cert.KernelIdealValue.outAll_block (Cert.KernelIdealValue.cut_of h) c), (k.1 c).2⟩)
      (Cert.KernelIdealRun.run_value m g),
    Cert.ReferenceIdealValue.run_result m' g'⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
